-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_second_prob_above_eps [hPre_second_prob_above_eps : Cert.Pre_second_prob_above_eps.Facts] (m : (ℓ : Loc Cert.KernelIdeal.nD Cert.KernelIdeal.τ Cert.KernelIdeal.sig) → Buf (Elt Ideal) ℓ) : Prop :=
  ∀ c : Dev Cert.KernelIdeal.nD,
    (Cert.Pre_second_prob_above_eps.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_second_prob_above_eps [hPre_second_prob_above_eps : Cert.Pre_second_prob_above_eps.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_second_prob_above_eps.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_second_prob_above_eps [hKernelIdeal : Cert.KernelIdeal.Facts] [hPre_second_prob_above_eps : Cert.Pre_second_prob_above_eps.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_second_prob_above_eps m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_second_prob_above_eps [hReferenceIdeal : Cert.ReferenceIdeal.Facts] [hPre_second_prob_above_eps : Cert.Pre_second_prob_above_eps.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_second_prob_above_eps m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_second_prob_above_eps [hKernelIdeal : Cert.KernelIdeal.Facts] [hReferenceIdeal : Cert.ReferenceIdeal.Facts] [hPre_second_prob_above_eps : Cert.Pre_second_prob_above_eps.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_second_prob_above_eps m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_second_prob_above_eps : Cert.Pre_second_prob_above_eps.Facts),
    quiescent_Kernel (hKernel := hKernel)
    ∧ quiescent_KernelIdeal (hKernelIdeal := hKernelIdeal)
    ∧ quiescent_KernelIdeal_pre_second_prob_above_eps (hKernelIdeal := hKernelIdeal) (hPre_second_prob_above_eps := hPre_second_prob_above_eps)
    ∧ quiescent_ReferenceIdeal (hReferenceIdeal := hReferenceIdeal)
    ∧ quiescent_ReferenceIdeal_pre_second_prob_above_eps (hReferenceIdeal := hReferenceIdeal) (hPre_second_prob_above_eps := hPre_second_prob_above_eps)
    ∧ preserves_Kernel_KernelIdeal
    ∧ algebraic_KernelIdeal_ReferenceIdeal_pre_second_prob_above_eps (hKernelIdeal := hKernelIdeal) (hReferenceIdeal := hReferenceIdeal) (hPre_second_prob_above_eps := hPre_second_prob_above_eps)
-- ==== Pre_second_prob_above_eps.lean ====
abbrev S4x4096x2048 : Shape := ⟨3, ![4, 4096, 2048]⟩
abbrev S2048 : Shape := ⟨1, ![2048]⟩
abbrev S64x2048 : Shape := ⟨2, ![64, 2048]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2048x64 : Shape := ⟨2, ![2048, 64]⟩
abbrev S16384x64 : Shape := ⟨2, ![16384, 64]⟩
abbrev S16384x2 : Shape := ⟨2, ![16384, 2]⟩
abbrev S2048x1 : Shape := ⟨2, ![2048, 1]⟩

class Facts : Prop where
  shapeCasts_S4x4096x2048_S16384x2048 : S4x4096x2048.ShapeCasts S16384x2048
  reducesTo_S16384x2048_S16384_d1 : S16384x2048.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x2048_0_1 : S16384x1.BroadcastsInDim S16384x2048 (![0, 1] : Fin 2 → Fin S16384x2048.rank)
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  transposes_S64x2048_S2048x64_1_0 : S64x2048.Transposes [1, 0] S2048x64
  bcast_S_S16384x64 : S_.BroadcastsInDim S16384x64 (![] : Fin 0 → Fin S16384x64.rank)
  reducesTo_S16384x64_S16384_d1 : S16384x64.ReducesTo [1] S16384
  bcast_S_S16384 : S_.BroadcastsInDim S16384 (![] : Fin 0 → Fin S16384.rank)
  bcast_S16384x1_S16384x64_0_1 : S16384x1.BroadcastsInDim S16384x64 (![0, 1] : Fin 2 → Fin S16384x64.rank)
  sliceFits_S16384x64_S16384x2 : S16384x64.Slices (fun _ => 0) S16384x2
  slices_S16384x2_S2048x1_0_1 : S16384x2.Slices ![0, 1] S2048x1
  shapeCasts_S2048x1_S2048 : S2048x1.ShapeCasts S2048
  bcast_S_S2048 : S_.BroadcastsInDim S2048 (![] : Fin 0 → Fin S2048.rank)
  reducesTo_S2048_S_d0 : S2048.ReducesTo [0] S_
  dot_S16384x2048_S2048x64_S16384x64_1_0_0_1_n_n_wf : DotDims.WF S16384x2048 S2048x64 S16384x64 [1] [0] [0] [1] [] []

variable [Facts]

def dot_S16384x2048_S2048x64_S16384x64_1_0_0_1_n_n : DotDims S16384x2048 S2048x64 S16384x64 where
  lhsContracting := [1]
  rhsContracting := [0]
  lhsNonContracting := [0]
  rhsNonContracting := [1]
  lhsBatch := []
  rhsBatch := []
  wf := dot_S16384x2048_S2048x64_S16384x64_1_0_0_1_n_n_wf
def fn_where {F : FTy → Type} [FloatOps F] (arg0 : IVec S16384x2048 1) (arg1 : FVec F S_ .f32) (arg2 : FVec F S16384x2048 .f32) : FVec F S16384x2048 .f32 :=
  let v0 : FVec F S_ .f32 := id arg1
  let v1 : FVec F S16384x2048 .f32 := broadcastInDim S16384x2048 ![] bcast_S_S16384x2048 v0
  let v2 : FVec F S16384x2048 .f32 := select arg0 v1 arg2
  v2

def fn_isinf {F : FTy → Type} [FloatOps F] (arg0 : FVec F S16384x2048 .f32) : IVec S16384x2048 1 :=
  let v0 : FVec F S16384x2048 .f32 := Host.absf arg0
  let cst : FVec F S_ .f32 := constant S_ .f32 0x7F800000#32
  let v1 : FVec F S16384x2048 .f32 := broadcastInDim S16384x2048 ![] bcast_S_S16384x2048 cst
  let v2 : IVec S16384x2048 1 := cmpf .oeq v0 v1
  v2

def fn_clip {F : FTy → Type} [FloatOps F] (arg0 : FVec F S16384x2048 .f32) (arg1 : FVec F S_ .f32) (arg2 : FVec F S_ .f32) : FVec F S16384x2048 .f32 :=
  let v0 : FVec F S_ .f32 := id arg1
  let v1 : FVec F S16384x2048 .f32 := broadcastInDim S16384x2048 ![] bcast_S_S16384x2048 v0
  let v2 : FVec F S16384x2048 .f32 := maximumf v1 arg0
  let v3 : FVec F S_ .f32 := id arg2
  let v4 : FVec F S16384x2048 .f32 := broadcastInDim S16384x2048 ![] bcast_S_S16384x2048 v3
  let v5 : FVec F S16384x2048 .f32 := minimumf v4 v2
  v5

def fn_clip_0 {F : FTy → Type} [FloatOps F] (arg0 : FVec F S16384x64 .f32) (arg1 : FVec F S_ .f32) (arg2 : FVec F S_ .f32) : FVec F S16384x64 .f32 :=
  let v0 : FVec F S_ .f32 := id arg1
  let v1 : FVec F S16384x64 .f32 := broadcastInDim S16384x64 ![] bcast_S_S16384x64 v0
  let v2 : FVec F S16384x64 .f32 := maximumf v1 arg0
  let v3 : FVec F S_ .f32 := id arg2
  let v4 : FVec F S16384x64 .f32 := broadcastInDim S16384x64 ![] bcast_S_S16384x64 v3
  let v5 : FVec F S16384x64 .f32 := minimumf v4 v2
  v5

def fn_part3 {F : FTy → Type} [FloatOps F] (main_v52 : FVec F S2048x1 .f32) : IVec S_ 1 :=
  let main_v53 : FVec F S2048 .f32 := shapeCast S2048 main_v52 shapeCasts_S2048x1_S2048
  let main_cst_16 : FVec F S_ .f32 := constant S_ .f32 0x38D1B717#32
  let main_v54 : FVec F S2048 .f32 := broadcastInDim S2048 ![] bcast_S_S2048 main_cst_16
  let main_v55 : IVec S2048 1 := cmpf .ogt main_v53 main_v54
  let main_c : IVec S_ 1 := constantI S_ 1 1#1
  let main_v56 : IVec S_ 1 := (fun x v => Host.reduce IntOp.andi x v reducesTo_S2048_S_d0 h_S_) main_v55 main_c
  main_v56

def fn_part2 {F : FTy → Type} [FloatOps F] (main_arg3 : FVec F S64x2048 .f32) (main_v36 : FVec F S16384x2048 .f32) (main_cst_9 : FVec F S_ .f32) : IVec S_ 1 :=
  let main_cst_10 : FVec F S_ .f32 := constant S_ .f32 0x42480000#32
  let main_v37 : FVec F S16384x2048 .f32 := fn_clip (F := F) main_v36 main_cst_9 main_cst_10
  let main_v38 : FVec F S2048x64 .f32 := (transpose S2048x64 [1, 0] · transposes_S64x2048_S2048x64_1_0) main_arg3
  let main_v39 : FVec F S16384x64 .f32 := (fun l r => Host.dotGeneral dot_S16384x2048_S2048x64_S16384x64_1_0_0_1_n_n none l r) main_v37 main_v38
  let main_cst_11 : FVec F S_ .f32 := constant S_ .f32 0xC1200000#32
  let main_cst_12 : FVec F S_ .f32 := constant S_ .f32 0x41200000#32
  let main_v40 : FVec F S16384x64 .f32 := fn_clip_0 (F := F) main_v39 main_cst_11 main_cst_12
  let main_cst_13 : FVec F S_ .f32 := constant S_ .f32 0xFF800000#32
  let main_v41 : FVec F S16384 .f32 := (fun x v => Host.reduce FloatOps.maximumf x v reducesTo_S16384x64_S16384_d1 h_S_) main_v40 main_cst_13
  let main_cst_14 : FVec F S_ .f32 := constant S_ .f32 0xFF800000#32
  let main_v42 : FVec F S16384 .f32 := broadcastInDim S16384 ![] bcast_S_S16384 main_cst_14
  let main_v43 : FVec F S16384 .f32 := maximumf main_v42 main_v41
  let main_v44 : FVec F S16384x1 .f32 := broadcastInDim S16384x1 ![0] bcast_S16384_S16384x1_0 main_v43
  let main_v45 : FVec F S16384x64 .f32 := broadcastInDim S16384x64 ![0, 1] bcast_S16384x1_S16384x64_0_1 main_v44
  let main_v46 : FVec F S16384x64 .f32 := subf main_v40 main_v45
  let main_v47 : FVec F S16384x64 .f32 := Host.exp main_v46
  let main_cst_15 : FVec F S_ .f32 := constant S_ .f32 0x00000000#32
  let main_v48 : FVec F S16384 .f32 := (fun x v => Host.reduceAdd x v reducesTo_S16384x64_S16384_d1 h_S_) main_v47 main_cst_15
  let main_v49 : FVec F S16384x1 .f32 := broadcastInDim S16384x1 ![0] bcast_S16384_S16384x1_0 main_v48
  let main_v50 : FVec F S16384x64 .f32 := broadcastInDim S16384x64 ![0, 1] bcast_S16384x1_S16384x64_0_1 main_v49
  let main_v51 : FVec F S16384x64 .f32 := Host.divf main_v47 main_v50
  let main_values : FVec F S16384x2 .f32 := (fun x => (Host.topK S16384x2 1 (FloatOps.cmpfTotal .gt) x sliceFits_S16384x64_S16384x2).1) main_v51
  let main_indices : IVec S16384x2 32 := (fun x => (Host.topK S16384x2 1 (FloatOps.cmpfTotal .gt) x sliceFits_S16384x64_S16384x2).2) main_v51
  let main_v52 : FVec F S2048x1 .f32 := (extractStridedSlice S2048x1 ![0, 1] · slices_S16384x2_S2048x1_0_1) main_values
  fn_part3 (F := F) main_v52

def fn_part1 {F : FTy → Type} [FloatOps F] (main_arg1 : FVec F S2048 .f32) (main_arg2 : FVec F S2048 .f32) (main_arg3 : FVec F S64x2048 .f32) (main_v18 : FVec F S16384x2048 .f32) : IVec S_ 1 :=
  let main_v19 : FVec F S1x2048 .f32 := broadcastInDim S1x2048 ![1] bcast_S2048_S1x2048_1 main_arg1
  let main_v20 : FVec F S16384x2048 .f32 := broadcastInDim S16384x2048 ![0, 1] bcast_S1x2048_S16384x2048_0_1 main_v19
  let main_v21 : FVec F S16384x2048 .f32 := mulf main_v18 main_v20
  let main_v22 : FVec F S1x2048 .f32 := broadcastInDim S1x2048 ![1] bcast_S2048_S1x2048_1 main_arg2
  let main_v23 : FVec F S16384x2048 .f32 := broadcastInDim S16384x2048 ![0, 1] bcast_S1x2048_S16384x2048_0_1 main_v22
  let main_v24 : FVec F S16384x2048 .f32 := addf main_v21 main_v23
  let main_v25 : IVec S16384x2048 1 := cmpf .une main_v24 main_v24
  let main_cst_4 : FVec F S_ .f32 := constant S_ .f32 0x00000000#32
  let main_v26 : FVec F S16384x2048 .f32 := fn_where (F := F) main_v25 main_cst_4 main_v24
  let main_v27 : IVec S16384x2048 1 := fn_isinf (F := F) main_v26
  let main_cst_5 : FVec F S_ .f32 := constant S_ .f32 0x00000000#32
  let main_v28 : FVec F S16384x2048 .f32 := broadcastInDim S16384x2048 ![] bcast_S_S16384x2048 main_cst_5
  let main_v29 : IVec S16384x2048 1 := cmpf .ogt main_v26 main_v28
  let main_v30 : IVec S16384x2048 1 := andi main_v27 main_v29
  let main_cst_6 : FVec F S_ .f32 := constant S_ .f32 0x42480000#32
  let main_v31 : FVec F S16384x2048 .f32 := fn_where (F := F) main_v30 main_cst_6 main_v26
  let main_v32 : IVec S16384x2048 1 := fn_isinf (F := F) main_v31
  let main_cst_7 : FVec F S_ .f32 := constant S_ .f32 0x00000000#32
  let main_v33 : FVec F S16384x2048 .f32 := broadcastInDim S16384x2048 ![] bcast_S_S16384x2048 main_cst_7
  let main_v34 : IVec S16384x2048 1 := cmpf .olt main_v31 main_v33
  let main_v35 : IVec S16384x2048 1 := andi main_v32 main_v34
  let main_cst_8 : FVec F S_ .f32 := constant S_ .f32 0xC2480000#32
  let main_v36 : FVec F S16384x2048 .f32 := fn_where (F := F) main_v35 main_cst_8 main_v31
  let main_cst_9 : FVec F S_ .f32 := constant S_ .f32 0xC2480000#32
  fn_part2 (F := F) main_arg3 main_v36 main_cst_9

def fn {F : FTy → Type} [FloatOps F] (main_arg0 : FVec F S4x4096x2048 .f32) (main_arg1 : FVec F S2048 .f32) (main_arg2 : FVec F S2048 .f32) (main_arg3 : FVec F S64x2048 .f32) : IVec S_ 1 :=
  let main_v0 : FVec F S16384x2048 .f32 := shapeCast S16384x2048 main_arg0 shapeCasts_S4x4096x2048_S16384x2048
  let main_cst : FVec F S_ .f32 := constant S_ .f32 0x00000000#32
  let main_v1 : FVec F S16384 .f32 := (fun x v => Host.reduceAdd x v reducesTo_S16384x2048_S16384_d1 h_S_) main_v0 main_cst
  let main_v2 : FVec F S16384x1 .f32 := broadcastInDim S16384x1 ![0] bcast_S16384_S16384x1_0 main_v1
  let main_cst_0 : FVec F S_ .f32 := constant S_ .f32 0x45000000#32
  let main_v3 : FVec F S16384x1 .f32 := broadcastInDim S16384x1 ![] bcast_S_S16384x1 main_cst_0
  let main_v4 : FVec F S16384x1 .f32 := Host.divf main_v2 main_v3
  let main_v5 : FVec F S16384x2048 .f32 := broadcastInDim S16384x2048 ![0, 1] bcast_S16384x1_S16384x2048_0_1 main_v4
  let main_v6 : FVec F S16384x2048 .f32 := subf main_v0 main_v5
  let main_v7 : FVec F S16384x2048 .f32 := mulf main_v6 main_v6
  let main_cst_1 : FVec F S_ .f32 := constant S_ .f32 0x00000000#32
  let main_v8 : FVec F S16384 .f32 := (fun x v => Host.reduceAdd x v reducesTo_S16384x2048_S16384_d1 h_S_) main_v7 main_cst_1
  let main_v9 : FVec F S16384x1 .f32 := broadcastInDim S16384x1 ![0] bcast_S16384_S16384x1_0 main_v8
  let main_cst_2 : FVec F S_ .f32 := constant S_ .f32 0x45000000#32
  let main_v10 : FVec F S16384x1 .f32 := broadcastInDim S16384x1 ![] bcast_S_S16384x1 main_cst_2
  let main_v11 : FVec F S16384x1 .f32 := Host.divf main_v9 main_v10
  let main_v12 : FVec F S16384x2048 .f32 := broadcastInDim S16384x2048 ![0, 1] bcast_S16384x1_S16384x2048_0_1 main_v4
  let main_v13 : FVec F S16384x2048 .f32 := subf main_v0 main_v12
  let main_cst_3 : FVec F S_ .f32 := constant S_ .f32 0x3727C5AC#32
  let main_v14 : FVec F S16384x1 .f32 := broadcastInDim S16384x1 ![] bcast_S_S16384x1 main_cst_3
  let main_v15 : FVec F S16384x1 .f32 := addf main_v11 main_v14
  let main_v16 : FVec F S16384x1 .f32 := Host.sqrt main_v15
  let main_v17 : FVec F S16384x2048 .f32 := broadcastInDim S16384x2048 ![0, 1] bcast_S16384x1_S16384x2048_0_1 main_v16
  let main_v18 : FVec F S16384x2048 .f32 := Host.divf main_v13 main_v17
  fn_part1 (F := F) main_arg1 main_arg2 main_arg3 main_v18
-- ==== Kernel.lean ====
abbrev S4x4096x2048 : Shape := ⟨3, ![4, 4096, 2048]⟩
abbrev S2048 : Shape := ⟨1, ![2048]⟩
abbrev S64x2048 : Shape := ⟨2, ![64, 2048]⟩
abbrev S16384x2048 : Shape := ⟨2, ![16384, 2048]⟩
abbrev S1x2048 : Shape := ⟨2, ![1, 2048]⟩
abbrev S2048x64 : Shape := ⟨2, ![2048, 64]⟩
abbrev S2048x2048 : Shape := ⟨2, ![2048, 2048]⟩
abbrev S2048x1 : Shape := ⟨2, ![2048, 1]⟩
abbrev S131072 : Shape := ⟨1, ![131072]⟩
abbrev S4096 : Shape := ⟨1, ![4096]⟩
abbrev S128 : Shape := ⟨1, ![128]⟩
abbrev S_ : Shape := ⟨0, ![]⟩
abbrev S16 : Shape := ⟨1, ![16]⟩
abbrev S14336x64 : Shape := ⟨2, ![14336, 64]⟩
abbrev S14336x2 : Shape := ⟨2, ![14336, 2]⟩
abbrev S2048x2 : Shape := ⟨2, ![2048, 2]⟩
abbrev S16384x2 : Shape := ⟨2, ![16384, 2]⟩
abbrev S16384x64 : Shape := ⟨2, ![16384, 64]⟩

abbrev nBuf : Table → Nat
  | .hbm => 20
  | .local .tc .vmem => 16
  | .local .scVector .vmem => 3
  | _ => 0

abbrev bufTy : (tb : Table) → Fin (nBuf tb) → BufTy
  | .hbm, ⟨0, _⟩ => ⟨S4x4096x2048, .f32⟩
  | .hbm, ⟨1, _⟩ => ⟨S2048, .f32⟩
  | .hbm, ⟨2, _⟩ => ⟨S2048, .f32⟩
  | .hbm, ⟨3, _⟩ => ⟨S64x2048, .f32⟩
  | .hbm, ⟨4, _⟩ => ⟨S16384x2048, .f32⟩
  | .hbm, ⟨5, _⟩ => ⟨S1x2048, .f32⟩
  | .hbm, ⟨6, _⟩ => ⟨S1x2048, .f32⟩
  | .hbm, ⟨7, _⟩ => ⟨S2048x64, .f32⟩
  | .hbm, ⟨8, _⟩ => ⟨S2048x64, .f32⟩
  | .hbm, ⟨9, _⟩ => ⟨S131072, .f32⟩
  | .hbm, ⟨10, _⟩ => ⟨S4096, .f32⟩
  | .hbm, ⟨11, _⟩ => ⟨S4096, .i32⟩
  | .hbm, ⟨12, _⟩ => ⟨S14336x64, .f32⟩
  | .hbm, ⟨13, _⟩ => ⟨S14336x2, .f32⟩
  | .hbm, ⟨14, _⟩ => ⟨S14336x2, .i32⟩
  | .hbm, ⟨15, _⟩ => ⟨S2048x2, .f32⟩
  | .hbm, ⟨16, _⟩ => ⟨S16384x2, .f32⟩
  | .hbm, ⟨17, _⟩ => ⟨S2048x2, .i32⟩
  | .hbm, ⟨18, _⟩ => ⟨S16384x2, .i32⟩
  | .hbm, ⟨19, _⟩ => ⟨S16384x64, .f32⟩
  | .local .tc .vmem, ⟨0, _⟩ => ⟨S2048x2048, .f32⟩
  | .local .tc .vmem, ⟨1, _⟩ => ⟨S1x2048, .f32⟩
  | .local .tc .vmem, ⟨2, _⟩ => ⟨S1x2048, .f32⟩
  | .local .tc .vmem, ⟨3, _⟩ => ⟨S2048x64, .f32⟩
  | .local .tc .vmem, ⟨4, _⟩ => ⟨S2048x64, .f32⟩
  | .local .tc .vmem, ⟨5, _⟩ => ⟨S2048x2048, .f32⟩
  | .local .tc .vmem, ⟨6, _⟩ => ⟨S2048x2048, .f32⟩
  | .local .tc .vmem, ⟨7, _⟩ => ⟨S1x2048, .f32⟩
  | .local .tc .vmem, ⟨8, _⟩ => ⟨S1x2048, .f32⟩
  | .local .tc .vmem, ⟨9, _⟩ => ⟨S2048x64, .f32⟩
  | .local .tc .vmem, ⟨10, _⟩ => ⟨S2048x64, .f32⟩
  | .local .tc .vmem, ⟨11, _⟩ => ⟨S2048x64, .f32⟩
  | .local .tc .vmem, ⟨12, _⟩ => ⟨S2048x2, .f32⟩
  | .local .tc .vmem, ⟨13, _⟩ => ⟨S2048x2, .f32⟩
  | .local .tc .vmem, ⟨14, _⟩ => ⟨S2048x2, .i32⟩
  | .local .tc .vmem, ⟨15, _⟩ => ⟨S2048x2, .i32⟩
  | .local .scVector .vmem, ⟨0, _⟩ => ⟨S4096, .f32⟩
  | .local .scVector .vmem, ⟨1, _⟩ => ⟨S128, .f32⟩
  | .local .scVector .vmem, ⟨2, _⟩ => ⟨S128, .i32⟩
  | _, _ => ⟨S4x4096x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTables nBuf rfl bufTy 4 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v5_scv : Ref sig .scVector := ⟨.hbm, 9, rfl⟩
abbrev main_v6_0_scv : Ref sig .scVector := ⟨.hbm, 10, rfl⟩
abbrev main_v6_1_scv : Ref sig .scVector := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc2_stg0_0 : Ref sig .tc := ⟨.vmem, 5, rfl⟩
abbrev cc2_stg0_1 : Ref sig .tc := ⟨.vmem, 6, rfl⟩
abbrev cc2_stg1_0 : Ref sig .tc := ⟨.vmem, 7, rfl⟩
abbrev cc2_stg2_0 : Ref sig .tc := ⟨.vmem, 8, rfl⟩
abbrev cc2_stg3_0 : Ref sig .tc := ⟨.vmem, 9, rfl⟩
abbrev cc2_stg4_0 : Ref sig .tc := ⟨.vmem, 10, rfl⟩
abbrev cc2_stg4_1 : Ref sig .tc := ⟨.vmem, 11, rfl⟩
abbrev cc2_stg5_0 : Ref sig .tc := ⟨.vmem, 12, rfl⟩
abbrev cc2_stg5_1 : Ref sig .tc := ⟨.vmem, 13, rfl⟩
abbrev cc2_stg6_0 : Ref sig .tc := ⟨.vmem, 14, rfl⟩
abbrev cc2_stg6_1 : Ref sig .tc := ⟨.vmem, 15, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc2_sem0_0 : DmaSem sig := 8
abbrev cc2_sem0_1 : DmaSem sig := 9
abbrev cc2_sem1_0 : DmaSem sig := 10
abbrev cc2_sem2_0 : DmaSem sig := 11
abbrev cc2_sem3_0 : DmaSem sig := 12
abbrev cc2_sem4_0 : DmaSem sig := 13
abbrev cc2_sem4_1 : DmaSem sig := 14
abbrev cc2_sem5_0 : DmaSem sig := 15
abbrev cc2_sem5_1 : DmaSem sig := 16
abbrev cc2_sem6_0 : DmaSem sig := 17
abbrev cc2_sem6_1 : DmaSem sig := 18
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  ![v2.toNat]
@[reducible] def k1_t1_loop : Scf.Loop 32 :=
  let c0_i32_0 : BitVec 32 := 0#32
  let c4_i32 : BitVec 32 := 4#32
  let v4 : BitVec 32 := Scalar.addi c0_i32_0 c4_i32
  let c1_i32 : BitVec 32 := 1#32
  ⟨c0_i32_0, v4, c1_i32⟩

def k1_chk1 (v16 : IVec S16 32) : Prop :=
  (∀ a x, ((![v16] : Fin 1 → IVec S16 32) a x).toNat < S4096.size a)
theorem k1_idx1_inb : ∀ (v16 : IVec S16 32) (k1_hw1 : k1_chk1 v16), ∀ a x, ((![v16] : Fin 1 → IVec S16 32) a x).toNat < S4096.size a := fun v16 k1_hw1 => k1_hw1

def k1_chk2 (v30 : IVec S16 32) : Prop :=
  (∀ a x, ((![v30] : Fin 1 → IVec S16 32) a x).toNat < S4096.size a)
theorem k1_idx2_inb : ∀ (v30 : IVec S16 32) (k1_hw2 : k1_chk2 v30), ∀ a x, ((![v30] : Fin 1 → IVec S16 32) a x).toNat < S4096.size a := fun v30 k1_hw2 => k1_hw2

def k1_chk3 (v44 : IVec S16 32) : Prop :=
  (∀ a x, ((![v44] : Fin 1 → IVec S16 32) a x).toNat < S4096.size a)
theorem k1_idx3_inb : ∀ (v44 : IVec S16 32) (k1_hw3 : k1_chk3 v44), ∀ a x, ((![v44] : Fin 1 → IVec S16 32) a x).toNat < S4096.size a := fun v44 k1_hw3 => k1_hw3

def k1_chk4 (v58 : IVec S16 32) : Prop :=
  (∀ a x, ((![v58] : Fin 1 → IVec S16 32) a x).toNat < S4096.size a)
theorem k1_idx4_inb : ∀ (v58 : IVec S16 32) (k1_hw4 : k1_chk4 v58), ∀ a x, ((![v58] : Fin 1 → IVec S16 32) a x).toNat < S4096.size a := fun v58 k1_hw4 => k1_hw4

def k1_chk5 (v72 : IVec S16 32) : Prop :=
  (∀ a x, ((![v72] : Fin 1 → IVec S16 32) a x).toNat < S4096.size a)
theorem k1_idx5_inb : ∀ (v72 : IVec S16 32) (k1_hw5 : k1_chk5 v72), ∀ a x, ((![v72] : Fin 1 → IVec S16 32) a x).toNat < S4096.size a := fun v72 k1_hw5 => k1_hw5

def k1_chk6 (v86 : IVec S16 32) : Prop :=
  (∀ a x, ((![v86] : Fin 1 → IVec S16 32) a x).toNat < S4096.size a)
theorem k1_idx6_inb : ∀ (v86 : IVec S16 32) (k1_hw6 : k1_chk6 v86), ∀ a x, ((![v86] : Fin 1 → IVec S16 32) a x).toNat < S4096.size a := fun v86 k1_hw6 => k1_hw6

def k1_chk7 (v100 : IVec S16 32) : Prop :=
  (∀ a x, ((![v100] : Fin 1 → IVec S16 32) a x).toNat < S4096.size a)
theorem k1_idx7_inb : ∀ (v100 : IVec S16 32) (k1_hw7 : k1_chk7 v100), ∀ a x, ((![v100] : Fin 1 → IVec S16 32) a x).toNat < S4096.size a := fun v100 k1_hw7 => k1_hw7

def k1_chk8 (v114 : IVec S16 32) : Prop :=
  (∀ a x, ((![v114] : Fin 1 → IVec S16 32) a x).toNat < S4096.size a)
theorem k1_idx8_inb : ∀ (v114 : IVec S16 32) (k1_hw8 : k1_chk8 v114), ∀ a x, ((![v114] : Fin 1 → IVec S16 32) a x).toNat < S4096.size a := fun v114 k1_hw8 => k1_hw8

def k1_chk9 (v128 : IVec S16 32) : Prop :=
  (∀ a x, ((![v128] : Fin 1 → IVec S16 32) a x).toNat < S4096.size a)
theorem k1_idx9_inb : ∀ (v128 : IVec S16 32) (k1_hw9 : k1_chk9 v128), ∀ a x, ((![v128] : Fin 1 → IVec S16 32) a x).toNat < S4096.size a := fun v128 k1_hw9 => k1_hw9

def k1_chk10 (v142 : IVec S16 32) : Prop :=
  (∀ a x, ((![v142] : Fin 1 → IVec S16 32) a x).toNat < S4096.size a)
theorem k1_idx10_inb : ∀ (v142 : IVec S16 32) (k1_hw10 : k1_chk10 v142), ∀ a x, ((![v142] : Fin 1 → IVec S16 32) a x).toNat < S4096.size a := fun v142 k1_hw10 => k1_hw10

def k1_chk11 (v156 : IVec S16 32) : Prop :=
  (∀ a x, ((![v156] : Fin 1 → IVec S16 32) a x).toNat < S4096.size a)
theorem k1_idx11_inb : ∀ (v156 : IVec S16 32) (k1_hw11 : k1_chk11 v156), ∀ a x, ((![v156] : Fin 1 → IVec S16 32) a x).toNat < S4096.size a := fun v156 k1_hw11 => k1_hw11

def k1_chk12 (v170 : IVec S16 32) : Prop :=
  (∀ a x, ((![v170] : Fin 1 → IVec S16 32) a x).toNat < S4096.size a)
theorem k1_idx12_inb : ∀ (v170 : IVec S16 32) (k1_hw12 : k1_chk12 v170), ∀ a x, ((![v170] : Fin 1 → IVec S16 32) a x).toNat < S4096.size a := fun v170 k1_hw12 => k1_hw12

def k1_chk13 (v184 : IVec S16 32) : Prop :=
  (∀ a x, ((![v184] : Fin 1 → IVec S16 32) a x).toNat < S4096.size a)
theorem k1_idx13_inb : ∀ (v184 : IVec S16 32) (k1_hw13 : k1_chk13 v184), ∀ a x, ((![v184] : Fin 1 → IVec S16 32) a x).toNat < S4096.size a := fun v184 k1_hw13 => k1_hw13

def k1_chk14 (v198 : IVec S16 32) : Prop :=
  (∀ a x, ((![v198] : Fin 1 → IVec S16 32) a x).toNat < S4096.size a)
theorem k1_idx14_inb : ∀ (v198 : IVec S16 32) (k1_hw14 : k1_chk14 v198), ∀ a x, ((![v198] : Fin 1 → IVec S16 32) a x).toNat < S4096.size a := fun v198 k1_hw14 => k1_hw14

def k1_chk15 (v212 : IVec S16 32) : Prop :=
  (∀ a x, ((![v212] : Fin 1 → IVec S16 32) a x).toNat < S4096.size a)
theorem k1_idx15_inb : ∀ (v212 : IVec S16 32) (k1_hw15 : k1_chk15 v212), ∀ a x, ((![v212] : Fin 1 → IVec S16 32) a x).toNat < S4096.size a := fun v212 k1_hw15 => k1_hw15

def k1_chk16 (v226 : IVec S16 32) : Prop :=
  (∀ a x, ((![v226] : Fin 1 → IVec S16 32) a x).toNat < S4096.size a)
theorem k1_idx16_inb : ∀ (v226 : IVec S16 32) (k1_hw16 : k1_chk16 v226), ∀ a x, ((![v226] : Fin 1 → IVec S16 32) a x).toNat < S4096.size a := fun v226 k1_hw16 => k1_hw16

def k1_chk17 (v240 : IVec S16 32) : Prop :=
  (∀ a x, ((![v240] : Fin 1 → IVec S16 32) a x).toNat < S4096.size a)
theorem k1_idx17_inb : ∀ (v240 : IVec S16 32) (k1_hw17 : k1_chk17 v240), ∀ a x, ((![v240] : Fin 1 → IVec S16 32) a x).toNat < S4096.size a := fun v240 k1_hw17 => k1_hw17

def k1_chk18 (v254 : IVec S16 32) : Prop :=
  (∀ a x, ((![v254] : Fin 1 → IVec S16 32) a x).toNat < S4096.size a)
theorem k1_idx18_inb : ∀ (v254 : IVec S16 32) (k1_hw18 : k1_chk18 v254), ∀ a x, ((![v254] : Fin 1 → IVec S16 32) a x).toNat < S4096.size a := fun v254 k1_hw18 => k1_hw18

def k1_chk19 (v268 : IVec S16 32) : Prop :=
  (∀ a x, ((![v268] : Fin 1 → IVec S16 32) a x).toNat < S4096.size a)
theorem k1_idx19_inb : ∀ (v268 : IVec S16 32) (k1_hw19 : k1_chk19 v268), ∀ a x, ((![v268] : Fin 1 → IVec S16 32) a x).toNat < S4096.size a := fun v268 k1_hw19 => k1_hw19

def k1_chk20 (v282 : IVec S16 32) : Prop :=
  (∀ a x, ((![v282] : Fin 1 → IVec S16 32) a x).toNat < S4096.size a)
theorem k1_idx20_inb : ∀ (v282 : IVec S16 32) (k1_hw20 : k1_chk20 v282), ∀ a x, ((![v282] : Fin 1 → IVec S16 32) a x).toNat < S4096.size a := fun v282 k1_hw20 => k1_hw20

def k1_chk21 (v296 : IVec S16 32) : Prop :=
  (∀ a x, ((![v296] : Fin 1 → IVec S16 32) a x).toNat < S4096.size a)
theorem k1_idx21_inb : ∀ (v296 : IVec S16 32) (k1_hw21 : k1_chk21 v296), ∀ a x, ((![v296] : Fin 1 → IVec S16 32) a x).toNat < S4096.size a := fun v296 k1_hw21 => k1_hw21

def k1_chk22 (v310 : IVec S16 32) : Prop :=
  (∀ a x, ((![v310] : Fin 1 → IVec S16 32) a x).toNat < S4096.size a)
theorem k1_idx22_inb : ∀ (v310 : IVec S16 32) (k1_hw22 : k1_chk22 v310), ∀ a x, ((![v310] : Fin 1 → IVec S16 32) a x).toNat < S4096.size a := fun v310 k1_hw22 => k1_hw22

def k1_chk23 (v324 : IVec S16 32) : Prop :=
  (∀ a x, ((![v324] : Fin 1 → IVec S16 32) a x).toNat < S4096.size a)
theorem k1_idx23_inb : ∀ (v324 : IVec S16 32) (k1_hw23 : k1_chk23 v324), ∀ a x, ((![v324] : Fin 1 → IVec S16 32) a x).toNat < S4096.size a := fun v324 k1_hw23 => k1_hw23

def k1_chk24 (v338 : IVec S16 32) : Prop :=
  (∀ a x, ((![v338] : Fin 1 → IVec S16 32) a x).toNat < S4096.size a)
theorem k1_idx24_inb : ∀ (v338 : IVec S16 32) (k1_hw24 : k1_chk24 v338), ∀ a x, ((![v338] : Fin 1 → IVec S16 32) a x).toNat < S4096.size a := fun v338 k1_hw24 => k1_hw24

def k1_chk25 (v352 : IVec S16 32) : Prop :=
  (∀ a x, ((![v352] : Fin 1 → IVec S16 32) a x).toNat < S4096.size a)
theorem k1_idx25_inb : ∀ (v352 : IVec S16 32) (k1_hw25 : k1_chk25 v352), ∀ a x, ((![v352] : Fin 1 → IVec S16 32) a x).toNat < S4096.size a := fun v352 k1_hw25 => k1_hw25

def k1_chk26 (v366 : IVec S16 32) : Prop :=
  (∀ a x, ((![v366] : Fin 1 → IVec S16 32) a x).toNat < S4096.size a)
theorem k1_idx26_inb : ∀ (v366 : IVec S16 32) (k1_hw26 : k1_chk26 v366), ∀ a x, ((![v366] : Fin 1 → IVec S16 32) a x).toNat < S4096.size a := fun v366 k1_hw26 => k1_hw26

def k1_chk27 (v380 : IVec S16 32) : Prop :=
  (∀ a x, ((![v380] : Fin 1 → IVec S16 32) a x).toNat < S4096.size a)
theorem k1_idx27_inb : ∀ (v380 : IVec S16 32) (k1_hw27 : k1_chk27 v380), ∀ a x, ((![v380] : Fin 1 → IVec S16 32) a x).toNat < S4096.size a := fun v380 k1_hw27 => k1_hw27

def k1_chk28 (v394 : IVec S16 32) : Prop :=
  (∀ a x, ((![v394] : Fin 1 → IVec S16 32) a x).toNat < S4096.size a)
theorem k1_idx28_inb : ∀ (v394 : IVec S16 32) (k1_hw28 : k1_chk28 v394), ∀ a x, ((![v394] : Fin 1 → IVec S16 32) a x).toNat < S4096.size a := fun v394 k1_hw28 => k1_hw28

def k1_chk29 (v408 : IVec S16 32) : Prop :=
  (∀ a x, ((![v408] : Fin 1 → IVec S16 32) a x).toNat < S4096.size a)
theorem k1_idx29_inb : ∀ (v408 : IVec S16 32) (k1_hw29 : k1_chk29 v408), ∀ a x, ((![v408] : Fin 1 → IVec S16 32) a x).toNat < S4096.size a := fun v408 k1_hw29 => k1_hw29

def k1_chk30 (v422 : IVec S16 32) : Prop :=
  (∀ a x, ((![v422] : Fin 1 → IVec S16 32) a x).toNat < S4096.size a)
theorem k1_idx30_inb : ∀ (v422 : IVec S16 32) (k1_hw30 : k1_chk30 v422), ∀ a x, ((![v422] : Fin 1 → IVec S16 32) a x).toNat < S4096.size a := fun v422 k1_hw30 => k1_hw30

def k1_chk31 (v436 : IVec S16 32) : Prop :=
  (∀ a x, ((![v436] : Fin 1 → IVec S16 32) a x).toNat < S4096.size a)
theorem k1_idx31_inb : ∀ (v436 : IVec S16 32) (k1_hw31 : k1_chk31 v436), ∀ a x, ((![v436] : Fin 1 → IVec S16 32) a x).toNat < S4096.size a := fun v436 k1_hw31 => k1_hw31

def k1_chk32 (v450 : IVec S16 32) : Prop :=
  (∀ a x, ((![v450] : Fin 1 → IVec S16 32) a x).toNat < S4096.size a)
theorem k1_idx32_inb : ∀ (v450 : IVec S16 32) (k1_hw32 : k1_chk32 v450), ∀ a x, ((![v450] : Fin 1 → IVec S16 32) a x).toNat < S4096.size a := fun v450 k1_hw32 => k1_hw32

def k1_chk33 (v464 : IVec S16 32) : Prop :=
  (∀ a x, ((![v464] : Fin 1 → IVec S16 32) a x).toNat < S4096.size a)
theorem k1_idx33_inb : ∀ (v464 : IVec S16 32) (k1_hw33 : k1_chk33 v464), ∀ a x, ((![v464] : Fin 1 → IVec S16 32) a x).toNat < S4096.size a := fun v464 k1_hw33 => k1_hw33

def k1_chk34 (v478 : IVec S16 32) : Prop :=
  (∀ a x, ((![v478] : Fin 1 → IVec S16 32) a x).toNat < S4096.size a)
theorem k1_idx34_inb : ∀ (v478 : IVec S16 32) (k1_hw34 : k1_chk34 v478), ∀ a x, ((![v478] : Fin 1 → IVec S16 32) a x).toNat < S4096.size a := fun v478 k1_hw34 => k1_hw34

def k1_chk35 (v492 : IVec S16 32) : Prop :=
  (∀ a x, ((![v492] : Fin 1 → IVec S16 32) a x).toNat < S4096.size a)
theorem k1_idx35_inb : ∀ (v492 : IVec S16 32) (k1_hw35 : k1_chk35 v492), ∀ a x, ((![v492] : Fin 1 → IVec S16 32) a x).toNat < S4096.size a := fun v492 k1_hw35 => k1_hw35

def k1_chk36 (v506 : IVec S16 32) : Prop :=
  (∀ a x, ((![v506] : Fin 1 → IVec S16 32) a x).toNat < S4096.size a)
theorem k1_idx36_inb : ∀ (v506 : IVec S16 32) (k1_hw36 : k1_chk36 v506), ∀ a x, ((![v506] : Fin 1 → IVec S16 32) a x).toNat < S4096.size a := fun v506 k1_hw36 => k1_hw36

def k1_chk37 (v520 : IVec S16 32) : Prop :=
  (∀ a x, ((![v520] : Fin 1 → IVec S16 32) a x).toNat < S4096.size a)
theorem k1_idx37_inb : ∀ (v520 : IVec S16 32) (k1_hw37 : k1_chk37 v520), ∀ a x, ((![v520] : Fin 1 → IVec S16 32) a x).toNat < S4096.size a := fun v520 k1_hw37 => k1_hw37

def k1_chk38 (v534 : IVec S16 32) : Prop :=
  (∀ a x, ((![v534] : Fin 1 → IVec S16 32) a x).toNat < S4096.size a)
theorem k1_idx38_inb : ∀ (v534 : IVec S16 32) (k1_hw38 : k1_chk38 v534), ∀ a x, ((![v534] : Fin 1 → IVec S16 32) a x).toNat < S4096.size a := fun v534 k1_hw38 => k1_hw38

def k1_chk39 (v548 : IVec S16 32) : Prop :=
  (∀ a x, ((![v548] : Fin 1 → IVec S16 32) a x).toNat < S4096.size a)
theorem k1_idx39_inb : ∀ (v548 : IVec S16 32) (k1_hw39 : k1_chk39 v548), ∀ a x, ((![v548] : Fin 1 → IVec S16 32) a x).toNat < S4096.size a := fun v548 k1_hw39 => k1_hw39

def k1_chk40 (v562 : IVec S16 32) : Prop :=
  (∀ a x, ((![v562] : Fin 1 → IVec S16 32) a x).toNat < S4096.size a)
theorem k1_idx40_inb : ∀ (v562 : IVec S16 32) (k1_hw40 : k1_chk40 v562), ∀ a x, ((![v562] : Fin 1 → IVec S16 32) a x).toNat < S4096.size a := fun v562 k1_hw40 => k1_hw40

def k1_chk41 (v576 : IVec S16 32) : Prop :=
  (∀ a x, ((![v576] : Fin 1 → IVec S16 32) a x).toNat < S4096.size a)
theorem k1_idx41_inb : ∀ (v576 : IVec S16 32) (k1_hw41 : k1_chk41 v576), ∀ a x, ((![v576] : Fin 1 → IVec S16 32) a x).toNat < S4096.size a := fun v576 k1_hw41 => k1_hw41

def k1_chk42 (v590 : IVec S16 32) : Prop :=
  (∀ a x, ((![v590] : Fin 1 → IVec S16 32) a x).toNat < S4096.size a)
theorem k1_idx42_inb : ∀ (v590 : IVec S16 32) (k1_hw42 : k1_chk42 v590), ∀ a x, ((![v590] : Fin 1 → IVec S16 32) a x).toNat < S4096.size a := fun v590 k1_hw42 => k1_hw42

def k1_chk43 (v604 : IVec S16 32) : Prop :=
  (∀ a x, ((![v604] : Fin 1 → IVec S16 32) a x).toNat < S4096.size a)
theorem k1_idx43_inb : ∀ (v604 : IVec S16 32) (k1_hw43 : k1_chk43 v604), ∀ a x, ((![v604] : Fin 1 → IVec S16 32) a x).toNat < S4096.size a := fun v604 k1_hw43 => k1_hw43

def k1_chk44 (v618 : IVec S16 32) : Prop :=
  (∀ a x, ((![v618] : Fin 1 → IVec S16 32) a x).toNat < S4096.size a)
theorem k1_idx44_inb : ∀ (v618 : IVec S16 32) (k1_hw44 : k1_chk44 v618), ∀ a x, ((![v618] : Fin 1 → IVec S16 32) a x).toNat < S4096.size a := fun v618 k1_hw44 => k1_hw44

def k1_chk45 (v632 : IVec S16 32) : Prop :=
  (∀ a x, ((![v632] : Fin 1 → IVec S16 32) a x).toNat < S4096.size a)
theorem k1_idx45_inb : ∀ (v632 : IVec S16 32) (k1_hw45 : k1_chk45 v632), ∀ a x, ((![v632] : Fin 1 → IVec S16 32) a x).toNat < S4096.size a := fun v632 k1_hw45 => k1_hw45

def k1_chk46 (v646 : IVec S16 32) : Prop :=
  (∀ a x, ((![v646] : Fin 1 → IVec S16 32) a x).toNat < S4096.size a)
theorem k1_idx46_inb : ∀ (v646 : IVec S16 32) (k1_hw46 : k1_chk46 v646), ∀ a x, ((![v646] : Fin 1 → IVec S16 32) a x).toNat < S4096.size a := fun v646 k1_hw46 => k1_hw46

def k1_chk47 (v660 : IVec S16 32) : Prop :=
  (∀ a x, ((![v660] : Fin 1 → IVec S16 32) a x).toNat < S4096.size a)
theorem k1_idx47_inb : ∀ (v660 : IVec S16 32) (k1_hw47 : k1_chk47 v660), ∀ a x, ((![v660] : Fin 1 → IVec S16 32) a x).toNat < S4096.size a := fun v660 k1_hw47 => k1_hw47

def k1_chk48 (v674 : IVec S16 32) : Prop :=
  (∀ a x, ((![v674] : Fin 1 → IVec S16 32) a x).toNat < S4096.size a)
theorem k1_idx48_inb : ∀ (v674 : IVec S16 32) (k1_hw48 : k1_chk48 v674), ∀ a x, ((![v674] : Fin 1 → IVec S16 32) a x).toNat < S4096.size a := fun v674 k1_hw48 => k1_hw48

def k1_chk49 (v688 : IVec S16 32) : Prop :=
  (∀ a x, ((![v688] : Fin 1 → IVec S16 32) a x).toNat < S4096.size a)
theorem k1_idx49_inb : ∀ (v688 : IVec S16 32) (k1_hw49 : k1_chk49 v688), ∀ a x, ((![v688] : Fin 1 → IVec S16 32) a x).toNat < S4096.size a := fun v688 k1_hw49 => k1_hw49

def k1_chk50 (v702 : IVec S16 32) : Prop :=
  (∀ a x, ((![v702] : Fin 1 → IVec S16 32) a x).toNat < S4096.size a)
theorem k1_idx50_inb : ∀ (v702 : IVec S16 32) (k1_hw50 : k1_chk50 v702), ∀ a x, ((![v702] : Fin 1 → IVec S16 32) a x).toNat < S4096.size a := fun v702 k1_hw50 => k1_hw50

def k1_chk51 (v716 : IVec S16 32) : Prop :=
  (∀ a x, ((![v716] : Fin 1 → IVec S16 32) a x).toNat < S4096.size a)
theorem k1_idx51_inb : ∀ (v716 : IVec S16 32) (k1_hw51 : k1_chk51 v716), ∀ a x, ((![v716] : Fin 1 → IVec S16 32) a x).toNat < S4096.size a := fun v716 k1_hw51 => k1_hw51

def k1_chk52 (v730 : IVec S16 32) : Prop :=
  (∀ a x, ((![v730] : Fin 1 → IVec S16 32) a x).toNat < S4096.size a)
theorem k1_idx52_inb : ∀ (v730 : IVec S16 32) (k1_hw52 : k1_chk52 v730), ∀ a x, ((![v730] : Fin 1 → IVec S16 32) a x).toNat < S4096.size a := fun v730 k1_hw52 => k1_hw52

def k1_chk53 (v744 : IVec S16 32) : Prop :=
  (∀ a x, ((![v744] : Fin 1 → IVec S16 32) a x).toNat < S4096.size a)
theorem k1_idx53_inb : ∀ (v744 : IVec S16 32) (k1_hw53 : k1_chk53 v744), ∀ a x, ((![v744] : Fin 1 → IVec S16 32) a x).toNat < S4096.size a := fun v744 k1_hw53 => k1_hw53

def k1_chk54 (v758 : IVec S16 32) : Prop :=
  (∀ a x, ((![v758] : Fin 1 → IVec S16 32) a x).toNat < S4096.size a)
theorem k1_idx54_inb : ∀ (v758 : IVec S16 32) (k1_hw54 : k1_chk54 v758), ∀ a x, ((![v758] : Fin 1 → IVec S16 32) a x).toNat < S4096.size a := fun v758 k1_hw54 => k1_hw54

def k1_chk55 (v772 : IVec S16 32) : Prop :=
  (∀ a x, ((![v772] : Fin 1 → IVec S16 32) a x).toNat < S4096.size a)
theorem k1_idx55_inb : ∀ (v772 : IVec S16 32) (k1_hw55 : k1_chk55 v772), ∀ a x, ((![v772] : Fin 1 → IVec S16 32) a x).toNat < S4096.size a := fun v772 k1_hw55 => k1_hw55

def k1_chk56 (v786 : IVec S16 32) : Prop :=
  (∀ a x, ((![v786] : Fin 1 → IVec S16 32) a x).toNat < S4096.size a)
theorem k1_idx56_inb : ∀ (v786 : IVec S16 32) (k1_hw56 : k1_chk56 v786), ∀ a x, ((![v786] : Fin 1 → IVec S16 32) a x).toNat < S4096.size a := fun v786 k1_hw56 => k1_hw56

def k1_chk57 (v800 : IVec S16 32) : Prop :=
  (∀ a x, ((![v800] : Fin 1 → IVec S16 32) a x).toNat < S4096.size a)
theorem k1_idx57_inb : ∀ (v800 : IVec S16 32) (k1_hw57 : k1_chk57 v800), ∀ a x, ((![v800] : Fin 1 → IVec S16 32) a x).toNat < S4096.size a := fun v800 k1_hw57 => k1_hw57

def k1_chk58 (v814 : IVec S16 32) : Prop :=
  (∀ a x, ((![v814] : Fin 1 → IVec S16 32) a x).toNat < S4096.size a)
theorem k1_idx58_inb : ∀ (v814 : IVec S16 32) (k1_hw58 : k1_chk58 v814), ∀ a x, ((![v814] : Fin 1 → IVec S16 32) a x).toNat < S4096.size a := fun v814 k1_hw58 => k1_hw58

def k1_chk59 (v828 : IVec S16 32) : Prop :=
  (∀ a x, ((![v828] : Fin 1 → IVec S16 32) a x).toNat < S4096.size a)
theorem k1_idx59_inb : ∀ (v828 : IVec S16 32) (k1_hw59 : k1_chk59 v828), ∀ a x, ((![v828] : Fin 1 → IVec S16 32) a x).toNat < S4096.size a := fun v828 k1_hw59 => k1_hw59

def k1_chk60 (v842 : IVec S16 32) : Prop :=
  (∀ a x, ((![v842] : Fin 1 → IVec S16 32) a x).toNat < S4096.size a)
theorem k1_idx60_inb : ∀ (v842 : IVec S16 32) (k1_hw60 : k1_chk60 v842), ∀ a x, ((![v842] : Fin 1 → IVec S16 32) a x).toNat < S4096.size a := fun v842 k1_hw60 => k1_hw60

def k1_chk61 (v856 : IVec S16 32) : Prop :=
  (∀ a x, ((![v856] : Fin 1 → IVec S16 32) a x).toNat < S4096.size a)
theorem k1_idx61_inb : ∀ (v856 : IVec S16 32) (k1_hw61 : k1_chk61 v856), ∀ a x, ((![v856] : Fin 1 → IVec S16 32) a x).toNat < S4096.size a := fun v856 k1_hw61 => k1_hw61

def k1_chk62 (v870 : IVec S16 32) : Prop :=
  (∀ a x, ((![v870] : Fin 1 → IVec S16 32) a x).toNat < S4096.size a)
theorem k1_idx62_inb : ∀ (v870 : IVec S16 32) (k1_hw62 : k1_chk62 v870), ∀ a x, ((![v870] : Fin 1 → IVec S16 32) a x).toNat < S4096.size a := fun v870 k1_hw62 => k1_hw62

def k1_chk63 (v884 : IVec S16 32) : Prop :=
  (∀ a x, ((![v884] : Fin 1 → IVec S16 32) a x).toNat < S4096.size a)
theorem k1_idx63_inb : ∀ (v884 : IVec S16 32) (k1_hw63 : k1_chk63 v884), ∀ a x, ((![v884] : Fin 1 → IVec S16 32) a x).toNat < S4096.size a := fun v884 k1_hw63 => k1_hw63

def k1_chk64 (v898 : IVec S16 32) : Prop :=
  (∀ a x, ((![v898] : Fin 1 → IVec S16 32) a x).toNat < S4096.size a)
theorem k1_idx64_inb : ∀ (v898 : IVec S16 32) (k1_hw64 : k1_chk64 v898), ∀ a x, ((![v898] : Fin 1 → IVec S16 32) a x).toNat < S4096.size a := fun v898 k1_hw64 => k1_hw64

def k1_chk66 (v934 : IVec S16 32) : Prop :=
  (∀ a x, ((![v934] : Fin 1 → IVec S16 32) a x).toNat < S128.size a)
theorem k1_idx66_inb : ∀ (v934 : IVec S16 32) (k1_hw66 : k1_chk66 v934), ∀ a x, ((![v934] : Fin 1 → IVec S16 32) a x).toNat < S128.size a := fun v934 k1_hw66 => k1_hw66

def k1_chk65 (v932 : IVec S16 32) : Prop :=
  (∀ a x, ((![v932] : Fin 1 → IVec S16 32) a x).toNat < S128.size a) ∧
  (∀ a x, ((![v932] : Fin 1 → IVec S16 32) a x).toNat < S128.size a)
theorem k1_idx65_inb : ∀ (v932 : IVec S16 32) (k1_hw65 : k1_chk65 v932), ∀ a x, ((![v932] : Fin 1 → IVec S16 32) a x).toNat < S128.size a := fun v932 k1_hw65 => k1_hw65.1
theorem k1_idx67_inb : ∀ (v932 : IVec S16 32) (k1_hw65 : k1_chk65 v932), ∀ a x, ((![v932] : Fin 1 → IVec S16 32) a x).toNat < S128.size a := fun v932 k1_hw65 => k1_hw65.2

def k1_chk67 (v936 : IVec S16 32) : Prop :=
  (∀ a x, ((![v936] : Fin 1 → IVec S16 32) a x).toNat < S128.size a)
theorem k1_idx68_inb : ∀ (v936 : IVec S16 32) (k1_hw67 : k1_chk67 v936), ∀ a x, ((![v936] : Fin 1 → IVec S16 32) a x).toNat < S128.size a := fun v936 k1_hw67 => k1_hw67
def k1_off2 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v5 : BitVec 32 := Scalar.muli v1 c128_i32
  ![v5.toNat]
abbrev grid2 : Pipeline.Grid := ⟨1, ![7], ![false]⟩

def cc2_transform_0 (i : grid2.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2048x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2048x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2048x2 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2048x2 .i32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x4096x2048 : Shape := ⟨3, ![4, 4096, 2048]⟩
abbrev S2048 : Shape := ⟨1, ![2048]⟩
abbrev S64x2048 : Shape := ⟨2, ![64, 2048]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2048x64 : Shape := ⟨2, ![2048, 64]⟩
abbrev S16384x64 : Shape := ⟨2, ![16384, 64]⟩
abbrev S16384x2 : Shape := ⟨2, ![16384, 2]⟩

abbrev nBuf : Space → Nat
  | .hbm => 114
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048, .f32⟩
  | .hbm, ⟨3, _⟩ => ⟨S64x2048, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x2048, .f32⟩
  | .hbm, ⟨21, _⟩ => ⟨S16384x2048, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x2048, .f32⟩
  | .hbm, ⟨27, _⟩ => ⟨S16384x2048, .f32⟩
  | .hbm, ⟨28, _⟩ => ⟨S1x2048, .f32⟩
  | .hbm, ⟨29, _⟩ => ⟨S16384x2048, .f32⟩
  | .hbm, ⟨30, _⟩ => ⟨S16384x2048, .f32⟩
  | .hbm, ⟨31, _⟩ => ⟨S1x2048, .f32⟩
  | .hbm, ⟨32, _⟩ => ⟨S16384x2048, .f32⟩
  | .hbm, ⟨33, _⟩ => ⟨S16384x2048, .f32⟩
  | .hbm, ⟨34, _⟩ => ⟨S16384x2048, .i1⟩
  | .hbm, ⟨35, _⟩ => ⟨S_, .f32⟩
  | .hbm, ⟨36, _⟩ => ⟨S_, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S_, .f32⟩
  | .hbm, ⟨41, _⟩ => ⟨S16384x2048, .f32⟩
  | .hbm, ⟨42, _⟩ => ⟨S16384x2048, .i1⟩
  | .hbm, ⟨43, _⟩ => ⟨S_, .f32⟩
  | .hbm, ⟨44, _⟩ => ⟨S16384x2048, .f32⟩
  | .hbm, ⟨45, _⟩ => ⟨S16384x2048, .i1⟩
  | .hbm, ⟨46, _⟩ => ⟨S16384x2048, .i1⟩
  | .hbm, ⟨47, _⟩ => ⟨S_, .f32⟩
  | .hbm, ⟨48, _⟩ => ⟨S_, .f32⟩
  | .hbm, ⟨49, _⟩ => ⟨S16384x2048, .f32⟩
  | .hbm, ⟨50, _⟩ => ⟨S16384x2048, .f32⟩
  | .hbm, ⟨51, _⟩ => ⟨S16384x2048, .f32⟩
  | .hbm, ⟨52, _⟩ => ⟨S_, .f32⟩
  | .hbm, ⟨53, _⟩ => ⟨S16384x2048, .f32⟩
  | .hbm, ⟨54, _⟩ => ⟨S16384x2048, .i1⟩
  | .hbm, ⟨55, _⟩ => ⟨S_, .f32⟩
  | .hbm, ⟨56, _⟩ => ⟨S16384x2048, .f32⟩
  | .hbm, ⟨57, _⟩ => ⟨S16384x2048, .i1⟩
  | .hbm, ⟨58, _⟩ => ⟨S16384x2048, .i1⟩
  | .hbm, ⟨59, _⟩ => ⟨S_, .f32⟩
  | .hbm, ⟨60, _⟩ => ⟨S_, .f32⟩
  | .hbm, ⟨61, _⟩ => ⟨S16384x2048, .f32⟩
  | .hbm, ⟨62, _⟩ => ⟨S16384x2048, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S16384x2048, .f32⟩
  | .hbm, ⟨67, _⟩ => ⟨S16384x2048, .f32⟩
  | .hbm, ⟨68, _⟩ => ⟨S_, .f32⟩
  | .hbm, ⟨69, _⟩ => ⟨S16384x2048, .f32⟩
  | .hbm, ⟨70, _⟩ => ⟨S16384x2048, .f32⟩
  | .hbm, ⟨71, _⟩ => ⟨S2048x64, .f32⟩
  | .hbm, ⟨72, _⟩ => ⟨S16384x64, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S16384x64, .f32⟩
  | .hbm, ⟨77, _⟩ => ⟨S16384x64, .f32⟩
  | .hbm, ⟨78, _⟩ => ⟨S_, .f32⟩
  | .hbm, ⟨79, _⟩ => ⟨S16384x64, .f32⟩
  | .hbm, ⟨80, _⟩ => ⟨S16384x64, .f32⟩
  | .hbm, ⟨81, _⟩ => ⟨S_, .f32⟩
  | .hbm, ⟨82, _⟩ => ⟨S16384, .f32⟩
  | .hbm, ⟨83, _⟩ => ⟨S_, .f32⟩
  | .hbm, ⟨84, _⟩ => ⟨S16384, .f32⟩
  | .hbm, ⟨85, _⟩ => ⟨S16384, .f32⟩
  | .hbm, ⟨86, _⟩ => ⟨S16384x1, .f32⟩
  | .hbm, ⟨87, _⟩ => ⟨S16384x64, .f32⟩
  | .hbm, ⟨88, _⟩ => ⟨S16384x64, .f32⟩
  | .hbm, ⟨89, _⟩ => ⟨S16384x64, .f32⟩
  | .hbm, ⟨90, _⟩ => ⟨S_, .f32⟩
  | .hbm, ⟨91, _⟩ => ⟨S16384, .f32⟩
  | .hbm, ⟨92, _⟩ => ⟨S16384x1, .f32⟩
  | .hbm, ⟨93, _⟩ => ⟨S16384x64, .f32⟩
  | .hbm, ⟨94, _⟩ => ⟨S16384x64, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S16384x64, .f32⟩
  | .hbm, ⟨99, _⟩ => ⟨S16384x64, .f32⟩
  | .hbm, ⟨100, _⟩ => ⟨S_, .f32⟩
  | .hbm, ⟨101, _⟩ => ⟨S16384x64, .f32⟩
  | .hbm, ⟨102, _⟩ => ⟨S16384x64, .f32⟩
  | .hbm, ⟨103, _⟩ => ⟨S16384x2, .f32⟩
  | .hbm, ⟨104, _⟩ => ⟨S16384x2, .i32⟩
  | .hbm, ⟨105, _⟩ => ⟨S_, .f32⟩
  | .hbm, ⟨106, _⟩ => ⟨S16384, .f32⟩
  | .hbm, ⟨107, _⟩ => ⟨S16384x1, .f32⟩
  | .hbm, ⟨108, _⟩ => ⟨S_, .f32⟩
  | .hbm, ⟨109, _⟩ => ⟨S_, .f32⟩
  | .hbm, ⟨110, _⟩ => ⟨S16384x1, .f32⟩
  | .hbm, ⟨111, _⟩ => ⟨S16384x1, .f32⟩
  | .hbm, ⟨112, _⟩ => ⟨S16384x2, .f32⟩
  | .hbm, ⟨113, _⟩ => ⟨S16384x2, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_call0_v0 : Ref sig .tc := ⟨.hbm, 36, rfl⟩
abbrev main_call0_v1 : Ref sig .tc := ⟨.hbm, 37, rfl⟩
abbrev main_v26 : Ref sig .tc := ⟨.hbm, 38, rfl⟩
abbrev main_call1_v0 : Ref sig .tc := ⟨.hbm, 39, rfl⟩
abbrev main_call1_cst : Ref sig .tc := ⟨.hbm, 40, rfl⟩
abbrev main_call1_v1 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_call2_v0 : Ref sig .tc := ⟨.hbm, 48, rfl⟩
abbrev main_call2_v1 : Ref sig .tc := ⟨.hbm, 49, rfl⟩
abbrev main_v31 : Ref sig .tc := ⟨.hbm, 50, rfl⟩
abbrev main_call3_v0 : Ref sig .tc := ⟨.hbm, 51, rfl⟩
abbrev main_call3_cst : Ref sig .tc := ⟨.hbm, 52, rfl⟩
abbrev main_call3_v1 : Ref sig .tc := ⟨.hbm, 53, rfl⟩
abbrev main_v32 : Ref sig .tc := ⟨.hbm, 54, rfl⟩
abbrev main_cst_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_8 : Ref sig .tc := ⟨.hbm, 59, rfl⟩
abbrev main_call4_v0 : Ref sig .tc := ⟨.hbm, 60, rfl⟩
abbrev main_call4_v1 : Ref sig .tc := ⟨.hbm, 61, rfl⟩
abbrev main_v36 : Ref sig .tc := ⟨.hbm, 62, rfl⟩
abbrev main_cst_9 : Ref sig .tc := ⟨.hbm, 63, rfl⟩
abbrev main_cst_10 : Ref sig .tc := ⟨.hbm, 64, rfl⟩
abbrev main_call5_v0 : Ref sig .tc := ⟨.hbm, 65, rfl⟩
abbrev main_call5_v1 : Ref sig .tc := ⟨.hbm, 66, rfl⟩
abbrev main_call5_v2 : Ref sig .tc := ⟨.hbm, 67, rfl⟩
abbrev main_call5_v3 : Ref sig .tc := ⟨.hbm, 68, rfl⟩
abbrev main_call5_v4 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_11 : Ref sig .tc := ⟨.hbm, 73, rfl⟩
abbrev main_cst_12 : Ref sig .tc := ⟨.hbm, 74, rfl⟩
abbrev main_call6_v0 : Ref sig .tc := ⟨.hbm, 75, rfl⟩
abbrev main_call6_v1 : Ref sig .tc := ⟨.hbm, 76, rfl⟩
abbrev main_call6_v2 : Ref sig .tc := ⟨.hbm, 77, rfl⟩
abbrev main_call6_v3 : Ref sig .tc := ⟨.hbm, 78, rfl⟩
abbrev main_call6_v4 : Ref sig .tc := ⟨.hbm, 79, rfl⟩
abbrev main_v40 : Ref sig .tc := ⟨.hbm, 80, rfl⟩
abbrev main_cst_13 : Ref sig .tc := ⟨.hbm, 81, rfl⟩
abbrev main_v41 : Ref sig .tc := ⟨.hbm, 82, rfl⟩
abbrev main_cst_14 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_cst_15 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_cst_16 : Ref sig .tc := ⟨.hbm, 95, rfl⟩
abbrev main_cst_17 : Ref sig .tc := ⟨.hbm, 96, rfl⟩
abbrev main_call7_v0 : Ref sig .tc := ⟨.hbm, 97, rfl⟩
abbrev main_call7_v1 : Ref sig .tc := ⟨.hbm, 98, rfl⟩
abbrev main_call7_v2 : Ref sig .tc := ⟨.hbm, 99, rfl⟩
abbrev main_call7_v3 : Ref sig .tc := ⟨.hbm, 100, rfl⟩
abbrev main_call7_v4 : Ref sig .tc := ⟨.hbm, 101, rfl⟩
abbrev main_v52 : Ref sig .tc := ⟨.hbm, 102, rfl⟩
abbrev main_values : Ref sig .tc := ⟨.hbm, 103, rfl⟩
abbrev main_indices : Ref sig .tc := ⟨.hbm, 104, rfl⟩
abbrev main_cst_18 : Ref sig .tc := ⟨.hbm, 105, rfl⟩
abbrev main_v53 : Ref sig .tc := ⟨.hbm, 106, rfl⟩
abbrev main_v54 : Ref sig .tc := ⟨.hbm, 107, rfl⟩
abbrev main_cst_19 : Ref sig .tc := ⟨.hbm, 108, rfl⟩
abbrev main_call8_v0 : Ref sig .tc := ⟨.hbm, 109, rfl⟩
abbrev main_call8_v1 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩

abbrev nD : Nat := 1
abbrev τ : Topo := Topo.v7x

variable {F : FTy → Type} [FloatOps F]
-- ==== Proof.Setup.lean ====
/-
  What every module of the run shares: the program as the SparseCore launch theorem sees it, the resource algebra (the handshakes' rounds,
  the pipelines' rounds, the local copies' counters) and the HBM buffers' names.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The side conditions of the launch: the four handshake semaphores are the launch's own, no shared buffer is a task's, the call's kind. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- Where the handshakes' rounds live. -/
def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
/-- Where the two pipelines' rounds live. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

end Cert.Proof.Run

end
-- ==== Proof.TileState.lean ====
/-
  What a SparseCore tile computes of its rows. A tile holds 64 rows of 64 logits; a trip takes sixteen rows, one to a lane, and goes through
  the 64 experts in order, keeping per lane the two largest logits met so far, their expert numbers, and the running sum of the exponentials
  (`Top`). `st … n` is that state after `n` experts, for all lanes at once.
-/
module

public import proofs.«01_k».proof.Proof.Setup

@[expose] public section

noncomputable section

namespace Cert.Proof.Run

open Cert.KernelIdeal Cert.KernelIdeal.Gen
open Idealize.ShloMosaic

variable {F : FTy → Type} [FloatOps F]

/-- The state of a trip: per lane, the largest and second largest logit so far, the experts they belong to, the sum of the exponentials. -/
structure Tops (F : FTy → Type) where
  m1 : Vec F S16 .f32
  m2 : Vec F S16 .f32
  i1 : IVec S16 32
  i2 : IVec S16 32
  z : FVec F S16 .f32

/-- The state before any expert: both maxima minus infinity, both experts 0, the sum zero. -/
def Tops.init : Tops F where
  m1 := broadcast S16 (Scalar.ofBits .f32 0xFF800000#32)
  m2 := broadcast S16 (Scalar.ofBits .f32 0xFF800000#32)
  i1 := broadcast S16 0#32
  i2 := broadcast S16 0#32
  z := broadcast S16 (Scalar.ofBits .f32 0x00000000#32)

/-- One expert `e` with logits `l`: a strictly larger logit takes the first place and pushes the first to the second, one only larger than the
    second takes the second. -/
def Tops.push (s : Tops F) (e : BitVec 32) (l : Vec F S16 .f32) : Tops F where
  m1 := select (cmpf .ogt l s.m1) l s.m1
  m2 := select (cmpf .ogt l s.m1) s.m1 (select (cmpf .ogt l s.m2) l s.m2)
  i1 := select (cmpf .ogt l s.m1) (broadcast S16 e) s.i1
  i2 := select (cmpf .ogt l s.m1) s.i1 (select (cmpf .ogt l s.m2) (broadcast S16 e) s.i2)
  z := addf s.z (exp l)

/-- Every index a trip gathers at lies in the tile's 4096 words: `v10` holds each lane's row offset. -/
abbrev InRange (v10 : IVec S16 32) : Prop :=
  ∀ e : ℕ, e < 64 → ∀ a x, ((![addi v10 (broadcast S16 (BitVec.ofNat 32 e))] : Fin 1 → IVec S16 32) a x).toNat < S4096.size a

/-- The logits of expert `e`, one to a lane: the gather at the lanes' row offsets plus `e`. -/
def ld (f : Vec F S4096 .f32) (v10 : IVec S16 32) (hv : InRange v10) (e : ℕ) : Vec F S16 .f32 :=
  if h : e < 64 then loadIdx f ![addi v10 (broadcast S16 (BitVec.ofNat 32 e))] (hv e h) else broadcast S16 (Scalar.ofBits .f32 0x00000000#32)

/-- The state after `n` experts. -/
def st (f : Vec F S4096 .f32) (v10 : IVec S16 32) (hv : InRange v10) : ℕ → Tops F
  | 0 => Tops.init
  | n + 1 => (st f v10 hv n).push (BitVec.ofNat 32 n) (ld f v10 hv n)

/-- The lane numbers 0 to 15. -/
def lanes : IVec S16 32 := iota .scVector S16 32 [0] iota_S16_d0_w32_scVector

/-- Where each lane's row begins in the tile's 4096 words, in trip `t`: row `16 t + lane`, of 64 words. -/
def rowOff (t : Fin k1_t1_loop.trips) : IVec S16 32 :=
  addi (broadcast S16 (Scalar.muli (Scf.iv 0#32 1#32 t) 1024#32)) (muli lanes (broadcast S16 64#32))

/-- Where each lane's pair of results begins in the tile's 128 words, in trip `t`, -/
def pairOff (t : Fin k1_t1_loop.trips) : IVec S16 32 :=
  addi (broadcast S16 (Scalar.muli (Scf.iv 0#32 1#32 t) 32#32)) (muli lanes (broadcast S16 2#32))

/-- and the second place of the pair. -/
def pairOff' (t : Fin k1_t1_loop.trips) : IVec S16 32 := addi (pairOff t) (broadcast S16 1#32)

theorem trips_lt (t : Fin k1_t1_loop.trips) : t.val < 4 := lt_of_lt_of_le t.isLt k1_t1_abs.2.1

theorem trips_eq : k1_t1_loop.trips = 4 := by decide

theorem lanes_apply (x : S16.Idx) : lanes x = BitVec.ofNat 32 (x 0).val := by
  show BitVec.ofNat 32 (0 * 16 + (x 0).val) = _
  rw [Nat.zero_mul, Nat.zero_add]

/-- A lane number is below 16. -/
theorem lane_lt (x : S16.Idx) : (x 0).val < 16 := (x 0).isLt

theorem rowOff_add_toNat (t : Fin k1_t1_loop.trips) (e : ℕ) (he : e < 64) (x : S16.Idx) :
    (addi (rowOff t) (broadcast S16 (BitVec.ofNat 32 e)) x).toNat = (16 * t.val + (x 0).val) * 64 + e := by
  have ht := trips_lt t
  have hx := lane_lt x
  show ((((0#32 + BitVec.ofNat 32 t.val * 1#32) * 1024#32 + lanes x * 64#32) + BitVec.ofNat 32 e : BitVec 32)).toNat = _
  rw [lanes_apply]
  simp only [BitVec.toNat_add, BitVec.toNat_mul, BitVec.toNat_ofNat]
  omega

theorem pairOff_toNat (t : Fin k1_t1_loop.trips) (x : S16.Idx) : (pairOff t x).toNat = (16 * t.val + (x 0).val) * 2 := by
  have ht := trips_lt t
  have hx := lane_lt x
  show (((0#32 + BitVec.ofNat 32 t.val * 1#32) * 32#32 + lanes x * 2#32 : BitVec 32)).toNat = _
  rw [lanes_apply]
  simp only [BitVec.toNat_add, BitVec.toNat_mul, BitVec.toNat_ofNat]
  omega

theorem pairOff'_toNat (t : Fin k1_t1_loop.trips) (x : S16.Idx) : (pairOff' t x).toNat = (16 * t.val + (x 0).val) * 2 + 1 := by
  have ht := trips_lt t
  have hx := lane_lt x
  show ((pairOff t x + 1#32 : BitVec 32)).toNat = _
  rw [BitVec.toNat_add, pairOff_toNat]
  show ((16 * t.val + (x 0).val) * 2 + 1) % 4294967296 = _
  omega

theorem rowOff_inRange (t : Fin k1_t1_loop.trips) : InRange (rowOff t) := by
  intro e he a x
  have ht := trips_lt t
  have hx := lane_lt x
  obtain rfl : a = 0 := Subsingleton.elim _ _
  show (addi (rowOff t) (broadcast S16 (BitVec.ofNat 32 e)) x).toNat < 4096
  rw [rowOff_add_toNat t e he x]
  omega

theorem pairOff_inRange (t : Fin k1_t1_loop.trips) : ∀ a x, ((![pairOff t] : Fin 1 → IVec S16 32) a x).toNat < S128.size a := by
  intro a x
  have ht := trips_lt t
  have hx := lane_lt x
  obtain rfl : a = 0 := Subsingleton.elim _ _
  show (pairOff t x).toNat < 128
  rw [pairOff_toNat t x]
  omega

theorem pairOff'_inRange (t : Fin k1_t1_loop.trips) : ∀ a x, ((![pairOff' t] : Fin 1 → IVec S16 32) a x).toNat < S128.size a := by
  intro a x
  have ht := trips_lt t
  have hx := lane_lt x
  obtain rfl : a = 0 := Subsingleton.elim _ _
  show (pairOff' t x).toNat < 128
  rw [pairOff'_toNat t x]
  omega

/-- The state of trip `t` after all 64 experts. -/
def trip (f : Vec F S4096 .f32) (t : Fin k1_t1_loop.trips) : Tops F := st f (rowOff t) (rowOff_inRange t) 64

/-- The softmax weight of a logit `m` against the sum `z`, clipped to [1e-4, 1]. -/
def clipped (m : Vec F S16 .f32) (z : FVec F S16 .f32) : FVec F S16 .f32 :=
  minimumf (broadcast S16 (Scalar.ofBits .f32 0x3F800000#32)) (maximumf (broadcast S16 (Scalar.ofBits .f32 0x38D1B717#32)) (divf (exp m) z))

/-- The two weights' sum, at least 1e-4. -/
def denom (s : Tops F) : FVec F S16 .f32 :=
  maximumf (addf (clipped s.m1 s.z) (clipped s.m2 s.z)) (broadcast S16 (Scalar.ofBits .f32 0x38D1B717#32))

/-- The first and the second weight, normalised. -/
def prob1 (s : Tops F) : FVec F S16 .f32 := divf (clipped s.m1 s.z) (denom s)
def prob2 (s : Tops F) : FVec F S16 .f32 := divf (clipped s.m2 s.z) (denom s)

/-- The two indexed stores of a trip: the lanes' first values at their pairs' first places, the second values at the second. -/
def storeTwo {e : EltTy} (g : Vec F S128 e) (t : Fin k1_t1_loop.trips) (a b : Vec F S16 e) : Vec F S128 e :=
  storeIdx (storeIdx g ![pairOff t] a (fun _ => 1#1) false (pairOff_inRange t)) ![pairOff' t] b (fun _ => 1#1) false (pairOff'_inRange t)

end Cert.Proof.Run

end
-- ==== Proof.TileSteps.lean ====
module

public import proofs.«01_k».proof.Proof.TileState

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The tile a coordinate pair names. -/
abbrev cV (L : grid1.Coords) : Fin τ.nSC := (L 0).castLE hcore1
abbrev jV (L : grid1.Coords) : Fin τ.nSub := (L 1).castLE hsub1

abbrev sL : Memref sig .scVector .vmem S4096 .f32 := Memref.whole cc1_scratch0
abbrev sP : Memref sig .scVector .vmem S128 .f32 := Memref.whole cc1_scratch1
abbrev sI : Memref sig .scVector .vmem S128 .i32 := Memref.whole cc1_scratch2

variable (d : Dev nD) (L : grid1.Coords)

/-- The fetched rows, held whole, in the form the indexed loads read. -/
abbrev rowsAt (f : Vec F S4096 .f32) : sProp 𝕄 := (sL.access (.whole S4096)).loc (V d (cV L) (jV L)) ↦{fullShare} f

/-- The check of a gather's indices passes. -/
theorem step_check {α : Type} {Q : α → sProp 𝕄} {R : sProp 𝕄} {C : Prop} {hdec : Decidable C} (hC : C)
    {k : PLift C → Prog (TpuEff nD τ sig (Elt F) Λ₀ (.scVector (cV L) (jV L))) α}
    (H : R ⊢ wp frame (wpE (defs₀ (F := F)) 𝒱₀ (V d (cV L) (jV L)) none) Set.univ (k ⟨hC⟩) Q) :
    R ⊢ wp frame (wpE (defs₀ (F := F)) 𝒱₀ (V d (cV L) (jV L)) none) Set.univ (.op (TpuEff.assume C hdec) k) Q := by
  rw [wp_assume_of _ _ _ _ hC]; exact H

/-- A gather reads the rows held. -/
theorem step_load {α : Type} {Q : α → sProp 𝕄} {R : sProp 𝕄} {f : Vec F S4096 .f32} {hl : sL.view.LoadsAt (Rect.whole S4096).toLoadRect}
    {k : Vec F S4096 .f32 → Prog (TpuEff nD τ sig (Elt F) Λ₀ (.scVector (cV L) (jV L))) α}
    (H : iprop(rowsAt d L f ∗ R) ⊢ wp frame (wpE (defs₀ (F := F)) 𝒱₀ (V d (cV L) (jV L)) none) Set.univ (k f) Q) :
    iprop(rowsAt d L f ∗ R) ⊢ wp frame (wpE (defs₀ (F := F)) 𝒱₀ (V d (cV L) (jV L)) none) Set.univ
      (.op (.load sL (.whole S4096) hl) k) Q := by
  iintro ⟨Hf, HR⟩
  iapply (wp_load_rect 𝒱₀ (V d (cV L) (jV L)) none Set.univ (m := sL) (r := Rect.whole S4096) (k := k) (S := Finset.univ) (q := fullShare) (Finset.subset_univ _)) $$ Hf
  iintro Hf
  rw [show (sL.access (.whole S4096)).read (Elt F) f = f from Memref.read_access_whole (Elt F) cc1_scratch0 f]
  iapply H
  isplitl [Hf] <;> iassumption

/-- The tile's probabilities, held whole. -/
abbrev probsAt (g : Vec F S128 .f32) : sProp 𝕄 := (sP.access (.whole S128)).loc (V d (cV L) (jV L)) ↦{fullShare} g

/-- An indexed store reads that buffer and writes it back changed. -/
theorem step_storeP {α : Type} {Q : α → sProp 𝕄} {R R' : sProp 𝕄} {g : Vec F S128 .f32} {hl : sP.view.LoadsAt (Rect.whole S128).toLoadRect}
    {v : Vec F S128 .f32 → Vec F S128 .f32} {hs : ∀ g', (sP.access (.whole S128)).Stores (Finset.univ : Finset S128.Idx)}
    {hm : Vec F S128 .f32 → (Finset.univ : Finset S128.Idx) = Finset.univ ∨ ∀ a, (Rect.whole S128).stride a = 1}
    {k : Prog (TpuEff nD τ sig (Elt F) Λ₀ (.scVector (cV L) (jV L))) α}
    (H : iprop(R ∗ probsAt d L (v g) ∗ R') ⊢ wp frame (wpE (defs₀ (F := F)) 𝒱₀ (V d (cV L) (jV L)) none) Set.univ k Q) :
    iprop(R ∗ probsAt d L g ∗ R') ⊢ wp frame (wpE (defs₀ (F := F)) 𝒱₀ (V d (cV L) (jV L)) none) Set.univ
      (.op (.load sP (.whole S128) hl) fun g' => .op (.store sP (.whole S128) (v g') Finset.univ (hs g') (hm g')) fun _ => k) Q := by
  iintro ⟨HR, Hg, HR'⟩
  iapply (wp_load_rect 𝒱₀ (V d (cV L) (jV L)) none Set.univ (m := sP) (r := Rect.whole S128) (S := Finset.univ) (q := fullShare) (Finset.subset_univ _)) $$ Hg
  iintro Hg
  rw [show (sP.access (.whole S128)).read (Elt F) g = g from Memref.read_access_whole (Elt F) cc1_scratch1 g]
  iapply (wp_store 𝒱₀ (V d (cV L) (jV L)) none Set.univ (m := sP) (r := Rect.whole S128) (S := Finset.univ) (Finset.subset_univ _)) $$ Hg
  iintro Hg
  rw [show (sP.access (.whole S128)).write (Elt F) g (v g) Finset.univ = v g from Memref.write_access_whole_univ (Elt F) cc1_scratch1 g (v g)]
  iapply H
  isplitl [HR]; · iassumption
  isplitl [Hg] <;> iassumption

/-- The tile's expert numbers, held whole. -/
abbrev picksAt (g : Vec F S128 .i32) : sProp 𝕄 := (sI.access (.whole S128)).loc (V d (cV L) (jV L)) ↦{fullShare} g

/-- An indexed store reads that buffer and writes it back changed. -/
theorem step_storeI {α : Type} {Q : α → sProp 𝕄} {R R' : sProp 𝕄} {g : Vec F S128 .i32} {hl : sI.view.LoadsAt (Rect.whole S128).toLoadRect}
    {v : Vec F S128 .i32 → Vec F S128 .i32} {hs : ∀ g', (sI.access (.whole S128)).Stores (Finset.univ : Finset S128.Idx)}
    {hm : Vec F S128 .i32 → (Finset.univ : Finset S128.Idx) = Finset.univ ∨ ∀ a, (Rect.whole S128).stride a = 1}
    {k : Prog (TpuEff nD τ sig (Elt F) Λ₀ (.scVector (cV L) (jV L))) α}
    (H : iprop(R ∗ picksAt d L (v g) ∗ R') ⊢ wp frame (wpE (defs₀ (F := F)) 𝒱₀ (V d (cV L) (jV L)) none) Set.univ k Q) :
    iprop(R ∗ picksAt d L g ∗ R') ⊢ wp frame (wpE (defs₀ (F := F)) 𝒱₀ (V d (cV L) (jV L)) none) Set.univ
      (.op (.load sI (.whole S128) hl) fun g' => .op (.store sI (.whole S128) (v g') Finset.univ (hs g') (hm g')) fun _ => k) Q := by
  iintro ⟨HR, Hg, HR'⟩
  iapply (wp_load_rect 𝒱₀ (V d (cV L) (jV L)) none Set.univ (m := sI) (r := Rect.whole S128) (S := Finset.univ) (q := fullShare) (Finset.subset_univ _)) $$ Hg
  iintro Hg
  rw [show (sI.access (.whole S128)).read (Elt F) g = g from Memref.read_access_whole (Elt F) cc1_scratch2 g]
  iapply (wp_store 𝒱₀ (V d (cV L) (jV L)) none Set.univ (m := sI) (r := Rect.whole S128) (S := Finset.univ) (Finset.subset_univ _)) $$ Hg
  iintro Hg
  rw [show (sI.access (.whole S128)).write (Elt F) g (v g) Finset.univ = v g from Memref.write_access_whole_univ (Elt F) cc1_scratch2 g (v g)]
  iapply H
  isplitl [HR]; · iassumption
  isplitl [Hg] <;> iassumption

variable (f : Vec F S4096 .f32) (v10 : IVec S16 32) (hv : InRange v10)
variable (a2 : Memref sig .scVector .hbm S131072 .f32) (h2 : a2.IsWhole) (a3 : Memref sig .scVector .hbm S4096 .f32) (h3 : a3.IsWhole)
  (a4 : Memref sig .scVector .hbm S4096 .i32) (h4 : a4.IsWhole) (h5 : sL.IsWhole) (a6 : Memref sig .scVector .vmem S128 .f32) (h6 : a6.IsWhole) (hP : sP.IsWhole)
  (a7 : Memref sig .scVector .vmem S128 .i32) (h7 : a7.IsWhole) (r0 r1 r2 : DmaSems sig S_)

/-- The head of trip `t`: the lanes' row offsets, then experts 0 to 2. -/
theorem part1_wp {α : Type} {Q : α → sProp 𝕄} {R : sProp 𝕄} (t : Fin k1_t1_loop.trips) (k : (Σ' (arg8 : BitVec 32) (v10 : IVec S16 32) (v38 : Vec F S16 .f32) (v40 : IVec S16 32) (v41 : Vec F S16 .f32) (v42 : IVec S16 32) (v45 : Vec F S16 .f32) (v47 : FVec F S16 .f32) (v48 : IVec S16 1) (v49 : IVec S16 1), BitVec 32) → Prog (TpuEff nD τ sig (Elt F) Λ₀ (.scVector (cV L) (jV L))) α)
    (H : iprop(rowsAt d L f ∗ R) ⊢ wp frame (wpE (defs₀ (F := F)) 𝒱₀ (V d (cV L) (jV L)) none) Set.univ
      (k ⟨Scf.iv 0#32 1#32 t, (rowOff t), (st f (rowOff t) (rowOff_inRange t) 2).m2, (st f (rowOff t) (rowOff_inRange t) 2).i2, (st f (rowOff t) (rowOff_inRange t) 2).m1, (st f (rowOff t) (rowOff_inRange t) 2).i1, ld f (rowOff t) (rowOff_inRange t) 2, (st f (rowOff t) (rowOff_inRange t) 3).z, (cmpf .ogt (ld f (rowOff t) (rowOff_inRange t) 2) (st f (rowOff t) (rowOff_inRange t) 2).m1), (cmpf .ogt (ld f (rowOff t) (rowOff_inRange t) 2) (st f (rowOff t) (rowOff_inRange t) 2).m2), 2#32⟩) Q) :
    iprop(rowsAt d L f ∗ R) ⊢ wp frame (wpE (defs₀ (F := F)) 𝒱₀ (V d (cV L) (jV L)) none) Set.univ
      (k1_part1 L a2 h2 a3 h3 a4 h4 sL h5 a6 h6 a7 h7 r0 r1 r2 lanes 0#32 1#32 t >>= k) Q := by
  simp only [k1_part1, Prog.lift, Prog.bind_op, Prog.bind_ret, Prog.pure_eq_ret, SparseCore.vectorLoadIdx]
  refine step_check d L (rowOff_inRange t 0 (by decide)) ?_
  refine step_load d L ?_
  refine step_check d L (rowOff_inRange t 1 (by decide)) ?_
  refine step_load d L ?_
  refine step_check d L (rowOff_inRange t 2 (by decide)) ?_
  refine step_load d L ?_
  exact H

/-- The stretch of a trip that gathers experts 3 to 5. -/
theorem part2_wp {α : Type} {Q : α → sProp 𝕄} {R : sProp 𝕄} (k : (Σ' (v89 : FVec F S16 .f32) (v94 : Vec F S16 .f32) (v96 : IVec S16 32) (v97 : Vec F S16 .f32) (v98 : IVec S16 32), IVec S16 32) → Prog (TpuEff nD τ sig (Elt F) Λ₀ (.scVector (cV L) (jV L))) α)
    (H : iprop(rowsAt d L f ∗ R) ⊢ wp frame (wpE (defs₀ (F := F)) 𝒱₀ (V d (cV L) (jV L)) none) Set.univ
      (k ⟨(st f v10 hv 6).z, (st f v10 hv 6).m2, (st f v10 hv 6).i2, (st f v10 hv 6).m1, (st f v10 hv 6).i1, broadcast S16 6#32⟩) Q) :
    iprop(rowsAt d L f ∗ R) ⊢ wp frame (wpE (defs₀ (F := F)) 𝒱₀ (V d (cV L) (jV L)) none) Set.univ
      (k1_part2 L a2 h2 a3 h3 a4 h4 sL h5 a6 h6 a7 h7 r0 r1 r2 v10 (st f v10 hv 2).m2 (st f v10 hv 2).i2 (st f v10 hv 2).m1 (st f v10 hv 2).i1 (ld f v10 hv 2) (st f v10 hv 3).z ((cmpf .ogt (ld f v10 hv 2) (st f v10 hv 2).m1)) ((cmpf .ogt (ld f v10 hv 2) (st f v10 hv 2).m2)) 2#32 >>= k) Q := by
  simp only [k1_part2, Prog.lift, Prog.bind_op, Prog.bind_ret, Prog.pure_eq_ret, SparseCore.vectorLoadIdx]
  refine step_check d L (hv 3 (by decide)) ?_
  refine step_load d L ?_
  refine step_check d L (hv 4 (by decide)) ?_
  refine step_load d L ?_
  refine step_check d L (hv 5 (by decide)) ?_
  refine step_load d L ?_
  exact H

/-- The stretch of a trip that gathers experts 6 to 9. -/
theorem part3_wp {α : Type} {Q : α → sProp 𝕄} {R : sProp 𝕄} (k : (Σ' (v136 : Vec F S16 .f32) (v138 : IVec S16 32) (v139 : Vec F S16 .f32) (v140 : IVec S16 32) (v143 : Vec F S16 .f32) (v145 : FVec F S16 .f32) (v146 : IVec S16 1) (v147 : IVec S16 1), IVec S16 32) → Prog (TpuEff nD τ sig (Elt F) Λ₀ (.scVector (cV L) (jV L))) α)
    (H : iprop(rowsAt d L f ∗ R) ⊢ wp frame (wpE (defs₀ (F := F)) 𝒱₀ (V d (cV L) (jV L)) none) Set.univ
      (k ⟨(st f v10 hv 9).m2, (st f v10 hv 9).i2, (st f v10 hv 9).m1, (st f v10 hv 9).i1, ld f v10 hv 9, (st f v10 hv 10).z, (cmpf .ogt (ld f v10 hv 9) (st f v10 hv 9).m1), (cmpf .ogt (ld f v10 hv 9) (st f v10 hv 9).m2), broadcast S16 9#32⟩) Q) :
    iprop(rowsAt d L f ∗ R) ⊢ wp frame (wpE (defs₀ (F := F)) 𝒱₀ (V d (cV L) (jV L)) none) Set.univ
      (k1_part3 L a2 h2 a3 h3 a4 h4 sL h5 a6 h6 a7 h7 r0 r1 r2 v10 (st f v10 hv 6).z (st f v10 hv 6).m2 (st f v10 hv 6).i2 (st f v10 hv 6).m1 (st f v10 hv 6).i1 (broadcast S16 6#32) >>= k) Q := by
  simp only [k1_part3, Prog.lift, Prog.bind_op, Prog.bind_ret, Prog.pure_eq_ret, SparseCore.vectorLoadIdx]
  refine step_check d L (hv 6 (by decide)) ?_
  refine step_load d L ?_
  refine step_check d L (hv 7 (by decide)) ?_
  refine step_load d L ?_
  refine step_check d L (hv 8 (by decide)) ?_
  refine step_load d L ?_
  refine step_check d L (hv 9 (by decide)) ?_
  refine step_load d L ?_
  exact H

/-- The stretch of a trip that gathers experts 10 to 12. -/
theorem part4_wp {α : Type} {Q : α → sProp 𝕄} {R : sProp 𝕄} (k : (Σ' (v187 : FVec F S16 .f32) (v192 : Vec F S16 .f32) (v194 : IVec S16 32) (v195 : Vec F S16 .f32) (v196 : IVec S16 32), IVec S16 32) → Prog (TpuEff nD τ sig (Elt F) Λ₀ (.scVector (cV L) (jV L))) α)
    (H : iprop(rowsAt d L f ∗ R) ⊢ wp frame (wpE (defs₀ (F := F)) 𝒱₀ (V d (cV L) (jV L)) none) Set.univ
      (k ⟨(st f v10 hv 13).z, (st f v10 hv 13).m2, (st f v10 hv 13).i2, (st f v10 hv 13).m1, (st f v10 hv 13).i1, addi v10 (broadcast S16 13#32)⟩) Q) :
    iprop(rowsAt d L f ∗ R) ⊢ wp frame (wpE (defs₀ (F := F)) 𝒱₀ (V d (cV L) (jV L)) none) Set.univ
      (k1_part4 L a2 h2 a3 h3 a4 h4 sL h5 a6 h6 a7 h7 r0 r1 r2 v10 (st f v10 hv 9).m2 (st f v10 hv 9).i2 (st f v10 hv 9).m1 (st f v10 hv 9).i1 (ld f v10 hv 9) (st f v10 hv 10).z ((cmpf .ogt (ld f v10 hv 9) (st f v10 hv 9).m1)) ((cmpf .ogt (ld f v10 hv 9) (st f v10 hv 9).m2)) (broadcast S16 9#32) >>= k) Q := by
  simp only [k1_part4, Prog.lift, Prog.bind_op, Prog.bind_ret, Prog.pure_eq_ret, SparseCore.vectorLoadIdx]
  refine step_check d L (hv 10 (by decide)) ?_
  refine step_load d L ?_
  refine step_check d L (hv 11 (by decide)) ?_
  refine step_load d L ?_
  refine step_check d L (hv 12 (by decide)) ?_
  refine step_load d L ?_
  exact H

/-- The stretch of a trip that gathers experts 13 to 16. -/
theorem part5_wp {α : Type} {Q : α → sProp 𝕄} {R : sProp 𝕄} (k : (Σ' (v236 : IVec S16 32) (v237 : Vec F S16 .f32) (v238 : IVec S16 32) (v241 : Vec F S16 .f32) (v243 : FVec F S16 .f32) (v244 : IVec S16 1) (v245 : IVec S16 1) (v246 : IVec S16 32), Vec F S16 .f32) → Prog (TpuEff nD τ sig (Elt F) Λ₀ (.scVector (cV L) (jV L))) α)
    (H : iprop(rowsAt d L f ∗ R) ⊢ wp frame (wpE (defs₀ (F := F)) 𝒱₀ (V d (cV L) (jV L)) none) Set.univ
      (k ⟨(st f v10 hv 16).i2, (st f v10 hv 16).m1, (st f v10 hv 16).i1, ld f v10 hv 16, (st f v10 hv 17).z, (cmpf .ogt (ld f v10 hv 16) (st f v10 hv 16).m1), (cmpf .ogt (ld f v10 hv 16) (st f v10 hv 16).m2), broadcast S16 16#32, select (cmpf .ogt (ld f v10 hv 16) (st f v10 hv 16).m2) (ld f v10 hv 16) (st f v10 hv 16).m2⟩) Q) :
    iprop(rowsAt d L f ∗ R) ⊢ wp frame (wpE (defs₀ (F := F)) 𝒱₀ (V d (cV L) (jV L)) none) Set.univ
      (k1_part5 L a2 h2 a3 h3 a4 h4 sL h5 a6 h6 a7 h7 r0 r1 r2 v10 (st f v10 hv 13).z (st f v10 hv 13).m2 (st f v10 hv 13).i2 (st f v10 hv 13).m1 (st f v10 hv 13).i1 (addi v10 (broadcast S16 13#32)) >>= k) Q := by
  simp only [k1_part5, Prog.lift, Prog.bind_op, Prog.bind_ret, Prog.pure_eq_ret, SparseCore.vectorLoadIdx]
  refine step_check d L (hv 13 (by decide)) ?_
  refine step_load d L ?_
  refine step_check d L (hv 14 (by decide)) ?_
  refine step_load d L ?_
  refine step_check d L (hv 15 (by decide)) ?_
  refine step_load d L ?_
  refine step_check d L (hv 16 (by decide)) ?_
  refine step_load d L ?_
  exact H

/-- The stretch of a trip that gathers experts 17 to 19. -/
theorem part6_wp {α : Type} {Q : α → sProp 𝕄} {R : sProp 𝕄} (k : (Σ' (v285 : FVec F S16 .f32) (v290 : Vec F S16 .f32) (v292 : IVec S16 32) (v293 : Vec F S16 .f32) (v294 : IVec S16 32) (v296 : IVec S16 32), k1_chk21 v296) → Prog (TpuEff nD τ sig (Elt F) Λ₀ (.scVector (cV L) (jV L))) α)
    (H : iprop(rowsAt d L f ∗ R) ⊢ wp frame (wpE (defs₀ (F := F)) 𝒱₀ (V d (cV L) (jV L)) none) Set.univ
      (k ⟨(st f v10 hv 20).z, (st f v10 hv 20).m2, (st f v10 hv 20).i2, (st f v10 hv 20).m1, (st f v10 hv 20).i1, addi v10 (broadcast S16 20#32), hv 20 (by decide)⟩) Q) :
    iprop(rowsAt d L f ∗ R) ⊢ wp frame (wpE (defs₀ (F := F)) 𝒱₀ (V d (cV L) (jV L)) none) Set.univ
      (k1_part6 L a2 h2 a3 h3 a4 h4 sL h5 a6 h6 a7 h7 r0 r1 r2 v10 (st f v10 hv 16).i2 (st f v10 hv 16).m1 (st f v10 hv 16).i1 (ld f v10 hv 16) (st f v10 hv 17).z ((cmpf .ogt (ld f v10 hv 16) (st f v10 hv 16).m1)) ((cmpf .ogt (ld f v10 hv 16) (st f v10 hv 16).m2)) (broadcast S16 16#32) (select (cmpf .ogt (ld f v10 hv 16) (st f v10 hv 16).m2) (ld f v10 hv 16) (st f v10 hv 16).m2) >>= k) Q := by
  simp only [k1_part6, Prog.lift, Prog.bind_op, Prog.bind_ret, Prog.pure_eq_ret, SparseCore.vectorLoadIdx]
  refine step_check d L (hv 17 (by decide)) ?_
  refine step_load d L ?_
  refine step_check d L (hv 18 (by decide)) ?_
  refine step_load d L ?_
  refine step_check d L (hv 19 (by decide)) ?_
  refine step_load d L ?_
  refine step_check d L (hv 20 (by decide)) ?_
  exact H

/-- The stretch of a trip that gathers experts 20 to 23. -/
theorem part7_wp {α : Type} {Q : α → sProp 𝕄} {R : sProp 𝕄} (k : (Σ' (v334 : IVec S16 32) (v335 : Vec F S16 .f32) (v336 : IVec S16 32) (v339 : Vec F S16 .f32) (v341 : FVec F S16 .f32) (v342 : IVec S16 1) (v343 : IVec S16 1) (v344 : IVec S16 32), Vec F S16 .f32) → Prog (TpuEff nD τ sig (Elt F) Λ₀ (.scVector (cV L) (jV L))) α)
    (H : iprop(rowsAt d L f ∗ R) ⊢ wp frame (wpE (defs₀ (F := F)) 𝒱₀ (V d (cV L) (jV L)) none) Set.univ
      (k ⟨(st f v10 hv 23).i2, (st f v10 hv 23).m1, (st f v10 hv 23).i1, ld f v10 hv 23, (st f v10 hv 24).z, (cmpf .ogt (ld f v10 hv 23) (st f v10 hv 23).m1), (cmpf .ogt (ld f v10 hv 23) (st f v10 hv 23).m2), broadcast S16 23#32, (st f v10 hv 24).m2⟩) Q) :
    iprop(rowsAt d L f ∗ R) ⊢ wp frame (wpE (defs₀ (F := F)) 𝒱₀ (V d (cV L) (jV L)) none) Set.univ
      (k1_part7 L a2 h2 a3 h3 a4 h4 sL h5 a6 h6 a7 h7 r0 r1 r2 v10 (st f v10 hv 20).z (st f v10 hv 20).m2 (st f v10 hv 20).i2 (st f v10 hv 20).m1 (st f v10 hv 20).i1 (addi v10 (broadcast S16 20#32)) (hv 20 (by decide)) >>= k) Q := by
  simp only [k1_part7, Prog.lift, Prog.bind_op, Prog.bind_ret, Prog.pure_eq_ret, SparseCore.vectorLoadIdx]
  refine step_load d L ?_
  refine step_check d L (hv 21 (by decide)) ?_
  refine step_load d L ?_
  refine step_check d L (hv 22 (by decide)) ?_
  refine step_load d L ?_
  refine step_check d L (hv 23 (by decide)) ?_
  refine step_load d L ?_
  exact H

/-- The stretch of a trip that gathers experts 24 to 27. -/
theorem part8_wp {α : Type} {Q : α → sProp 𝕄} {R : sProp 𝕄} (k : (Σ' (v383 : FVec F S16 .f32) (v388 : Vec F S16 .f32) (v390 : IVec S16 32) (v391 : Vec F S16 .f32) (v392 : IVec S16 32), Vec F S16 .f32) → Prog (TpuEff nD τ sig (Elt F) Λ₀ (.scVector (cV L) (jV L))) α)
    (H : iprop(rowsAt d L f ∗ R) ⊢ wp frame (wpE (defs₀ (F := F)) 𝒱₀ (V d (cV L) (jV L)) none) Set.univ
      (k ⟨(st f v10 hv 27).z, (st f v10 hv 27).m2, (st f v10 hv 27).i2, (st f v10 hv 27).m1, (st f v10 hv 27).i1, ld f v10 hv 27⟩) Q) :
    iprop(rowsAt d L f ∗ R) ⊢ wp frame (wpE (defs₀ (F := F)) 𝒱₀ (V d (cV L) (jV L)) none) Set.univ
      (k1_part8 L a2 h2 a3 h3 a4 h4 sL h5 a6 h6 a7 h7 r0 r1 r2 v10 (st f v10 hv 23).i2 (st f v10 hv 23).m1 (st f v10 hv 23).i1 (ld f v10 hv 23) (st f v10 hv 24).z ((cmpf .ogt (ld f v10 hv 23) (st f v10 hv 23).m1)) ((cmpf .ogt (ld f v10 hv 23) (st f v10 hv 23).m2)) (broadcast S16 23#32) (st f v10 hv 24).m2 >>= k) Q := by
  simp only [k1_part8, Prog.lift, Prog.bind_op, Prog.bind_ret, Prog.pure_eq_ret, SparseCore.vectorLoadIdx]
  refine step_check d L (hv 24 (by decide)) ?_
  refine step_load d L ?_
  refine step_check d L (hv 25 (by decide)) ?_
  refine step_load d L ?_
  refine step_check d L (hv 26 (by decide)) ?_
  refine step_load d L ?_
  refine step_check d L (hv 27 (by decide)) ?_
  refine step_load d L ?_
  exact H

/-- The stretch of a trip that gathers experts 28 to 30. -/
theorem part9_wp {α : Type} {Q : α → sProp 𝕄} {R : sProp 𝕄} (k : (Σ' (v433 : Vec F S16 .f32) (v434 : IVec S16 32) (v437 : Vec F S16 .f32) (v439 : FVec F S16 .f32) (v440 : IVec S16 1) (v442 : IVec S16 32) (v444 : Vec F S16 .f32), IVec S16 32) → Prog (TpuEff nD τ sig (Elt F) Λ₀ (.scVector (cV L) (jV L))) α)
    (H : iprop(rowsAt d L f ∗ R) ⊢ wp frame (wpE (defs₀ (F := F)) 𝒱₀ (V d (cV L) (jV L)) none) Set.univ
      (k ⟨(st f v10 hv 30).m1, (st f v10 hv 30).i1, ld f v10 hv 30, (st f v10 hv 31).z, (cmpf .ogt (ld f v10 hv 30) (st f v10 hv 30).m1), broadcast S16 30#32, (st f v10 hv 31).m2, select (cmpf .ogt (ld f v10 hv 30) (st f v10 hv 30).m2) (broadcast S16 30#32) (st f v10 hv 30).i2⟩) Q) :
    iprop(rowsAt d L f ∗ R) ⊢ wp frame (wpE (defs₀ (F := F)) 𝒱₀ (V d (cV L) (jV L)) none) Set.univ
      (k1_part9 L a2 h2 a3 h3 a4 h4 sL h5 a6 h6 a7 h7 r0 r1 r2 v10 (st f v10 hv 27).z (st f v10 hv 27).m2 (st f v10 hv 27).i2 (st f v10 hv 27).m1 (st f v10 hv 27).i1 (ld f v10 hv 27) >>= k) Q := by
  simp only [k1_part9, Prog.lift, Prog.bind_op, Prog.bind_ret, Prog.pure_eq_ret, SparseCore.vectorLoadIdx]
  refine step_check d L (hv 28 (by decide)) ?_
  refine step_load d L ?_
  refine step_check d L (hv 29 (by decide)) ?_
  refine step_load d L ?_
  refine step_check d L (hv 30 (by decide)) ?_
  refine step_load d L ?_
  exact H

/-- The stretch of a trip that gathers experts 31 to 34. -/
theorem part10_wp {α : Type} {Q : α → sProp 𝕄} {R : sProp 𝕄} (k : (Σ' (v481 : FVec F S16 .f32) (v486 : Vec F S16 .f32) (v488 : IVec S16 32) (v489 : Vec F S16 .f32) (v490 : IVec S16 32) (v493 : Vec F S16 .f32), FVec F S16 .f32) → Prog (TpuEff nD τ sig (Elt F) Λ₀ (.scVector (cV L) (jV L))) α)
    (H : iprop(rowsAt d L f ∗ R) ⊢ wp frame (wpE (defs₀ (F := F)) 𝒱₀ (V d (cV L) (jV L)) none) Set.univ
      (k ⟨(st f v10 hv 34).z, (st f v10 hv 34).m2, (st f v10 hv 34).i2, (st f v10 hv 34).m1, (st f v10 hv 34).i1, ld f v10 hv 34, exp (ld f v10 hv 34)⟩) Q) :
    iprop(rowsAt d L f ∗ R) ⊢ wp frame (wpE (defs₀ (F := F)) 𝒱₀ (V d (cV L) (jV L)) none) Set.univ
      (k1_part10 L a2 h2 a3 h3 a4 h4 sL h5 a6 h6 a7 h7 r0 r1 r2 v10 (st f v10 hv 30).m1 (st f v10 hv 30).i1 (ld f v10 hv 30) (st f v10 hv 31).z ((cmpf .ogt (ld f v10 hv 30) (st f v10 hv 30).m1)) (broadcast S16 30#32) (st f v10 hv 31).m2 (select (cmpf .ogt (ld f v10 hv 30) (st f v10 hv 30).m2) (broadcast S16 30#32) (st f v10 hv 30).i2) >>= k) Q := by
  simp only [k1_part10, Prog.lift, Prog.bind_op, Prog.bind_ret, Prog.pure_eq_ret, SparseCore.vectorLoadIdx]
  refine step_check d L (hv 31 (by decide)) ?_
  refine step_load d L ?_
  refine step_check d L (hv 32 (by decide)) ?_
  refine step_load d L ?_
  refine step_check d L (hv 33 (by decide)) ?_
  refine step_load d L ?_
  refine step_check d L (hv 34 (by decide)) ?_
  refine step_load d L ?_
  exact H

/-- The stretch of a trip that gathers experts 35 to 37. -/
theorem part11_wp {α : Type} {Q : α → sProp 𝕄} {R : sProp 𝕄} (k : (Σ' (v531 : Vec F S16 .f32) (v532 : IVec S16 32) (v535 : Vec F S16 .f32) (v537 : FVec F S16 .f32) (v538 : IVec S16 1) (v540 : IVec S16 32) (v542 : Vec F S16 .f32), IVec S16 32) → Prog (TpuEff nD τ sig (Elt F) Λ₀ (.scVector (cV L) (jV L))) α)
    (H : iprop(rowsAt d L f ∗ R) ⊢ wp frame (wpE (defs₀ (F := F)) 𝒱₀ (V d (cV L) (jV L)) none) Set.univ
      (k ⟨(st f v10 hv 37).m1, (st f v10 hv 37).i1, ld f v10 hv 37, (st f v10 hv 38).z, (cmpf .ogt (ld f v10 hv 37) (st f v10 hv 37).m1), broadcast S16 37#32, (st f v10 hv 38).m2, (st f v10 hv 38).i2⟩) Q) :
    iprop(rowsAt d L f ∗ R) ⊢ wp frame (wpE (defs₀ (F := F)) 𝒱₀ (V d (cV L) (jV L)) none) Set.univ
      (k1_part11 L a2 h2 a3 h3 a4 h4 sL h5 a6 h6 a7 h7 r0 r1 r2 v10 (st f v10 hv 34).z (st f v10 hv 34).m2 (st f v10 hv 34).i2 (st f v10 hv 34).m1 (st f v10 hv 34).i1 (ld f v10 hv 34) (exp (ld f v10 hv 34)) >>= k) Q := by
  simp only [k1_part11, Prog.lift, Prog.bind_op, Prog.bind_ret, Prog.pure_eq_ret, SparseCore.vectorLoadIdx]
  refine step_check d L (hv 35 (by decide)) ?_
  refine step_load d L ?_
  refine step_check d L (hv 36 (by decide)) ?_
  refine step_load d L ?_
  refine step_check d L (hv 37 (by decide)) ?_
  refine step_load d L ?_
  exact H

/-- The stretch of a trip that gathers experts 38 to 41. -/
theorem part12_wp {α : Type} {Q : α → sProp 𝕄} {R : sProp 𝕄} (k : (Σ' (v584 : Vec F S16 .f32) (v586 : IVec S16 32) (v587 : Vec F S16 .f32) (v588 : IVec S16 32) (v591 : Vec F S16 .f32), FVec F S16 .f32) → Prog (TpuEff nD τ sig (Elt F) Λ₀ (.scVector (cV L) (jV L))) α)
    (H : iprop(rowsAt d L f ∗ R) ⊢ wp frame (wpE (defs₀ (F := F)) 𝒱₀ (V d (cV L) (jV L)) none) Set.univ
      (k ⟨(st f v10 hv 41).m2, (st f v10 hv 41).i2, (st f v10 hv 41).m1, (st f v10 hv 41).i1, ld f v10 hv 41, (st f v10 hv 42).z⟩) Q) :
    iprop(rowsAt d L f ∗ R) ⊢ wp frame (wpE (defs₀ (F := F)) 𝒱₀ (V d (cV L) (jV L)) none) Set.univ
      (k1_part12 L a2 h2 a3 h3 a4 h4 sL h5 a6 h6 a7 h7 r0 r1 r2 v10 (st f v10 hv 37).m1 (st f v10 hv 37).i1 (ld f v10 hv 37) (st f v10 hv 38).z ((cmpf .ogt (ld f v10 hv 37) (st f v10 hv 37).m1)) (broadcast S16 37#32) (st f v10 hv 38).m2 (st f v10 hv 38).i2 >>= k) Q := by
  simp only [k1_part12, Prog.lift, Prog.bind_op, Prog.bind_ret, Prog.pure_eq_ret, SparseCore.vectorLoadIdx]
  refine step_check d L (hv 38 (by decide)) ?_
  refine step_load d L ?_
  refine step_check d L (hv 39 (by decide)) ?_
  refine step_load d L ?_
  refine step_check d L (hv 40 (by decide)) ?_
  refine step_load d L ?_
  refine step_check d L (hv 41 (by decide)) ?_
  refine step_load d L ?_
  exact H

/-- The stretch of a trip that gathers experts 42 to 44. -/
theorem part13_wp {α : Type} {Q : α → sProp 𝕄} {R : sProp 𝕄} (k : (Σ' (v630 : IVec S16 32) (v635 : FVec F S16 .f32) (v636 : IVec S16 1) (v638 : IVec S16 32) (v640 : Vec F S16 .f32) (v642 : IVec S16 32), Vec F S16 .f32) → Prog (TpuEff nD τ sig (Elt F) Λ₀ (.scVector (cV L) (jV L))) α)
    (H : iprop(rowsAt d L f ∗ R) ⊢ wp frame (wpE (defs₀ (F := F)) 𝒱₀ (V d (cV L) (jV L)) none) Set.univ
      (k ⟨(st f v10 hv 44).i1, (st f v10 hv 45).z, (cmpf .ogt (ld f v10 hv 44) (st f v10 hv 44).m1), broadcast S16 44#32, (st f v10 hv 45).m2, (st f v10 hv 45).i2, (st f v10 hv 45).m1⟩) Q) :
    iprop(rowsAt d L f ∗ R) ⊢ wp frame (wpE (defs₀ (F := F)) 𝒱₀ (V d (cV L) (jV L)) none) Set.univ
      (k1_part13 L a2 h2 a3 h3 a4 h4 sL h5 a6 h6 a7 h7 r0 r1 r2 v10 (st f v10 hv 41).m2 (st f v10 hv 41).i2 (st f v10 hv 41).m1 (st f v10 hv 41).i1 (ld f v10 hv 41) (st f v10 hv 42).z >>= k) Q := by
  simp only [k1_part13, Prog.lift, Prog.bind_op, Prog.bind_ret, Prog.pure_eq_ret, SparseCore.vectorLoadIdx]
  refine step_check d L (hv 42 (by decide)) ?_
  refine step_load d L ?_
  refine step_check d L (hv 43 (by decide)) ?_
  refine step_load d L ?_
  refine step_check d L (hv 44 (by decide)) ?_
  refine step_load d L ?_
  exact H

/-- The stretch of a trip that gathers experts 45 to 48. -/
theorem part14_wp {α : Type} {Q : α → sProp 𝕄} {R : sProp 𝕄} (k : (Σ' (v682 : Vec F S16 .f32) (v684 : IVec S16 32) (v685 : Vec F S16 .f32) (v686 : IVec S16 32) (v689 : Vec F S16 .f32) (v691 : FVec F S16 .f32), IVec S16 1) → Prog (TpuEff nD τ sig (Elt F) Λ₀ (.scVector (cV L) (jV L))) α)
    (H : iprop(rowsAt d L f ∗ R) ⊢ wp frame (wpE (defs₀ (F := F)) 𝒱₀ (V d (cV L) (jV L)) none) Set.univ
      (k ⟨(st f v10 hv 48).m2, (st f v10 hv 48).i2, (st f v10 hv 48).m1, (st f v10 hv 48).i1, ld f v10 hv 48, (st f v10 hv 49).z, (cmpf .ogt (ld f v10 hv 48) (st f v10 hv 48).m1)⟩) Q) :
    iprop(rowsAt d L f ∗ R) ⊢ wp frame (wpE (defs₀ (F := F)) 𝒱₀ (V d (cV L) (jV L)) none) Set.univ
      (k1_part14 L a2 h2 a3 h3 a4 h4 sL h5 a6 h6 a7 h7 r0 r1 r2 v10 (st f v10 hv 44).i1 (st f v10 hv 45).z ((cmpf .ogt (ld f v10 hv 44) (st f v10 hv 44).m1)) (broadcast S16 44#32) (st f v10 hv 45).m2 (st f v10 hv 45).i2 (st f v10 hv 45).m1 >>= k) Q := by
  simp only [k1_part14, Prog.lift, Prog.bind_op, Prog.bind_ret, Prog.pure_eq_ret, SparseCore.vectorLoadIdx]
  refine step_check d L (hv 45 (by decide)) ?_
  refine step_load d L ?_
  refine step_check d L (hv 46 (by decide)) ?_
  refine step_load d L ?_
  refine step_check d L (hv 47 (by decide)) ?_
  refine step_load d L ?_
  refine step_check d L (hv 48 (by decide)) ?_
  refine step_load d L ?_
  exact H

/-- The stretch of a trip that gathers experts 49 to 51. -/
theorem part15_wp {α : Type} {Q : α → sProp 𝕄} {R : sProp 𝕄} (k : (Σ' (v733 : FVec F S16 .f32) (v738 : Vec F S16 .f32) (v740 : IVec S16 32) (v741 : Vec F S16 .f32), IVec S16 32) → Prog (TpuEff nD τ sig (Elt F) Λ₀ (.scVector (cV L) (jV L))) α)
    (H : iprop(rowsAt d L f ∗ R) ⊢ wp frame (wpE (defs₀ (F := F)) 𝒱₀ (V d (cV L) (jV L)) none) Set.univ
      (k ⟨(st f v10 hv 52).z, (st f v10 hv 52).m2, (st f v10 hv 52).i2, (st f v10 hv 52).m1, (st f v10 hv 52).i1⟩) Q) :
    iprop(rowsAt d L f ∗ R) ⊢ wp frame (wpE (defs₀ (F := F)) 𝒱₀ (V d (cV L) (jV L)) none) Set.univ
      (k1_part15 L a2 h2 a3 h3 a4 h4 sL h5 a6 h6 a7 h7 r0 r1 r2 v10 (st f v10 hv 48).m2 (st f v10 hv 48).i2 (st f v10 hv 48).m1 (st f v10 hv 48).i1 (ld f v10 hv 48) (st f v10 hv 49).z ((cmpf .ogt (ld f v10 hv 48) (st f v10 hv 48).m1)) >>= k) Q := by
  simp only [k1_part15, Prog.lift, Prog.bind_op, Prog.bind_ret, Prog.pure_eq_ret, SparseCore.vectorLoadIdx]
  refine step_check d L (hv 49 (by decide)) ?_
  refine step_load d L ?_
  refine step_check d L (hv 50 (by decide)) ?_
  refine step_load d L ?_
  refine step_check d L (hv 51 (by decide)) ?_
  refine step_load d L ?_
  exact H

/-- The stretch of a trip that gathers experts 52 to 55. -/
theorem part16_wp {α : Type} {Q : α → sProp 𝕄} {R : sProp 𝕄} (k : (Σ' (v780 : Vec F S16 .f32) (v782 : IVec S16 32) (v783 : Vec F S16 .f32) (v784 : IVec S16 32) (v787 : Vec F S16 .f32) (v789 : FVec F S16 .f32) (v790 : IVec S16 1), IVec S16 1) → Prog (TpuEff nD τ sig (Elt F) Λ₀ (.scVector (cV L) (jV L))) α)
    (H : iprop(rowsAt d L f ∗ R) ⊢ wp frame (wpE (defs₀ (F := F)) 𝒱₀ (V d (cV L) (jV L)) none) Set.univ
      (k ⟨(st f v10 hv 55).m2, (st f v10 hv 55).i2, (st f v10 hv 55).m1, (st f v10 hv 55).i1, ld f v10 hv 55, (st f v10 hv 56).z, (cmpf .ogt (ld f v10 hv 55) (st f v10 hv 55).m1), (cmpf .ogt (ld f v10 hv 55) (st f v10 hv 55).m2)⟩) Q) :
    iprop(rowsAt d L f ∗ R) ⊢ wp frame (wpE (defs₀ (F := F)) 𝒱₀ (V d (cV L) (jV L)) none) Set.univ
      (k1_part16 L a2 h2 a3 h3 a4 h4 sL h5 a6 h6 a7 h7 r0 r1 r2 v10 (st f v10 hv 52).z (st f v10 hv 52).m2 (st f v10 hv 52).i2 (st f v10 hv 52).m1 (st f v10 hv 52).i1 >>= k) Q := by
  simp only [k1_part16, Prog.lift, Prog.bind_op, Prog.bind_ret, Prog.pure_eq_ret, SparseCore.vectorLoadIdx]
  refine step_check d L (hv 52 (by decide)) ?_
  refine step_load d L ?_
  refine step_check d L (hv 53 (by decide)) ?_
  refine step_load d L ?_
  refine step_check d L (hv 54 (by decide)) ?_
  refine step_load d L ?_
  refine step_check d L (hv 55 (by decide)) ?_
  refine step_load d L ?_
  exact H

/-- The stretch of a trip that gathers experts 56 to 58. -/
theorem part17_wp {α : Type} {Q : α → sProp 𝕄} {R : sProp 𝕄} (k : (Σ' (v831 : FVec F S16 .f32) (v836 : Vec F S16 .f32) (v838 : IVec S16 32) (v839 : Vec F S16 .f32) (v840 : IVec S16 32), BitVec 32) → Prog (TpuEff nD τ sig (Elt F) Λ₀ (.scVector (cV L) (jV L))) α)
    (H : iprop(rowsAt d L f ∗ R) ⊢ wp frame (wpE (defs₀ (F := F)) 𝒱₀ (V d (cV L) (jV L)) none) Set.univ
      (k ⟨(st f v10 hv 59).z, (st f v10 hv 59).m2, (st f v10 hv 59).i2, (st f v10 hv 59).m1, (st f v10 hv 59).i1, 59#32⟩) Q) :
    iprop(rowsAt d L f ∗ R) ⊢ wp frame (wpE (defs₀ (F := F)) 𝒱₀ (V d (cV L) (jV L)) none) Set.univ
      (k1_part17 L a2 h2 a3 h3 a4 h4 sL h5 a6 h6 a7 h7 r0 r1 r2 v10 (st f v10 hv 55).m2 (st f v10 hv 55).i2 (st f v10 hv 55).m1 (st f v10 hv 55).i1 (ld f v10 hv 55) (st f v10 hv 56).z ((cmpf .ogt (ld f v10 hv 55) (st f v10 hv 55).m1)) ((cmpf .ogt (ld f v10 hv 55) (st f v10 hv 55).m2)) >>= k) Q := by
  simp only [k1_part17, Prog.lift, Prog.bind_op, Prog.bind_ret, Prog.pure_eq_ret, SparseCore.vectorLoadIdx]
  refine step_check d L (hv 56 (by decide)) ?_
  refine step_load d L ?_
  refine step_check d L (hv 57 (by decide)) ?_
  refine step_load d L ?_
  refine step_check d L (hv 58 (by decide)) ?_
  refine step_load d L ?_
  exact H

/-- The stretch of a trip that gathers experts 59 to 62. -/
theorem part18_wp {α : Type} {Q : α → sProp 𝕄} {R : sProp 𝕄} (k : (Σ' (v878 : Vec F S16 .f32) (v880 : IVec S16 32) (v881 : Vec F S16 .f32) (v882 : IVec S16 32) (v885 : Vec F S16 .f32) (v887 : FVec F S16 .f32) (v888 : IVec S16 1) (v889 : IVec S16 1), BitVec 32) → Prog (TpuEff nD τ sig (Elt F) Λ₀ (.scVector (cV L) (jV L))) α)
    (H : iprop(rowsAt d L f ∗ R) ⊢ wp frame (wpE (defs₀ (F := F)) 𝒱₀ (V d (cV L) (jV L)) none) Set.univ
      (k ⟨(st f v10 hv 62).m2, (st f v10 hv 62).i2, (st f v10 hv 62).m1, (st f v10 hv 62).i1, ld f v10 hv 62, (st f v10 hv 63).z, (cmpf .ogt (ld f v10 hv 62) (st f v10 hv 62).m1), (cmpf .ogt (ld f v10 hv 62) (st f v10 hv 62).m2), 62#32⟩) Q) :
    iprop(rowsAt d L f ∗ R) ⊢ wp frame (wpE (defs₀ (F := F)) 𝒱₀ (V d (cV L) (jV L)) none) Set.univ
      (k1_part18 L a2 h2 a3 h3 a4 h4 sL h5 a6 h6 a7 h7 r0 r1 r2 v10 (st f v10 hv 59).z (st f v10 hv 59).m2 (st f v10 hv 59).i2 (st f v10 hv 59).m1 (st f v10 hv 59).i1 59#32 >>= k) Q := by
  simp only [k1_part18, Prog.lift, Prog.bind_op, Prog.bind_ret, Prog.pure_eq_ret, SparseCore.vectorLoadIdx]
  refine step_check d L (hv 59 (by decide)) ?_
  refine step_load d L ?_
  refine step_check d L (hv 60 (by decide)) ?_
  refine step_load d L ?_
  refine step_check d L (hv 61 (by decide)) ?_
  refine step_load d L ?_
  refine step_check d L (hv 62 (by decide)) ?_
  refine step_load d L ?_
  exact H

/-- The tail of trip `t`: experts 62 and 63, the two probabilities, and their stores. -/
theorem part19_wp {α : Type} {Q : α → sProp 𝕄} {R : sProp 𝕄} (t : Fin k1_t1_loop.trips) (g : Vec F S128 .f32) (k : (Σ' (v908 : IVec S16 32) (v910 : IVec S16 32) (v932 : IVec S16 32), k1_chk65 v932) → Prog (TpuEff nD τ sig (Elt F) Λ₀ (.scVector (cV L) (jV L))) α)
    (H : iprop(rowsAt d L f ∗ probsAt d L (storeTwo g t (prob1 (trip f t)) (prob2 (trip f t))) ∗ R) ⊢ wp frame (wpE (defs₀ (F := F)) 𝒱₀ (V d (cV L) (jV L)) none) Set.univ
      (k ⟨(trip f t).i2, (trip f t).i1, pairOff t, ⟨pairOff_inRange t, pairOff_inRange t⟩⟩) Q) :
    iprop(rowsAt d L f ∗ probsAt d L g ∗ R) ⊢ wp frame (wpE (defs₀ (F := F)) 𝒱₀ (V d (cV L) (jV L)) none) Set.univ
      (k1_part19 L a2 h2 a3 h3 a4 h4 sL h5 sP hP a7 h7 r0 r1 r2 lanes (Scf.iv 0#32 1#32 t) (rowOff t) (st f (rowOff t) (rowOff_inRange t) 62).m2 (st f (rowOff t) (rowOff_inRange t) 62).i2 (st f (rowOff t) (rowOff_inRange t) 62).m1 (st f (rowOff t) (rowOff_inRange t) 62).i1 (ld f (rowOff t) (rowOff_inRange t) 62) (st f (rowOff t) (rowOff_inRange t) 63).z ((cmpf .ogt (ld f (rowOff t) (rowOff_inRange t) 62) (st f (rowOff t) (rowOff_inRange t) 62).m1)) ((cmpf .ogt (ld f (rowOff t) (rowOff_inRange t) 62) (st f (rowOff t) (rowOff_inRange t) 62).m2)) 62#32 >>= k) Q := by
  simp only [k1_part19, Prog.lift, Prog.bind_op, Prog.bind_ret, Prog.pure_eq_ret, SparseCore.vectorLoadIdx, SparseCore.vectorStoreIdx]
  refine step_check d L (rowOff_inRange t 63 (by decide)) ?_
  refine step_load d L ?_
  refine step_check d L (C := k1_chk65 (pairOff t)) ⟨pairOff_inRange t, pairOff_inRange t⟩ ?_
  refine step_storeP d L ?_
  refine step_check d L (C := k1_chk66 (pairOff' t)) (pairOff'_inRange t) ?_
  refine step_storeP d L ?_
  exact H

end Cert.Proof.Run

end
-- ==== Proof.Tile.lean ====
/-
  A tile's task. One trip of its loop fills the trip's 32 places of the two result buffers (`trip_wp`); the four trips fill all 128, from the
  64 rows the tile fetched (`tile_body`).
-/
module

public import proofs.«01_k».proof.Proof.TileSteps

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## Indexed stores -/

section Store
variable {e : EltTy}

/-- A chain of one-place updates leaves alone what none of them names. -/
theorem foldl_miss {ι : Type} (l : List ι) (hit : ι → S128.Idx → Prop) [∀ k j, Decidable (hit k j)] (v : ι → Elt F e) (g : Vec F S128 e) (j : S128.Idx)
    (h : ∀ k ∈ l, ¬ hit k j) : (l.foldl (fun g k => fun j => if hit k j then v k else g j) g) j = g j := by
  induction l generalizing g with
  | nil => rfl
  | cons k l ih =>
      rw [List.foldl_cons, ih _ fun k' hk' => h k' (List.mem_cons_of_mem _ hk')]
      exact if_neg (h k List.mem_cons_self)

/-- What exactly one of them names it updates. -/
theorem foldl_hit {ι : Type} (l : List ι) (hit : ι → S128.Idx → Prop) [∀ k j, Decidable (hit k j)] (v : ι → Elt F e) (g : Vec F S128 e) (j : S128.Idx)
    (k : ι) (hk : k ∈ l) (hkj : hit k j) (h : ∀ k' ∈ l, hit k' j → k' = k) :
    (l.foldl (fun g k => fun j => if hit k j then v k else g j) g) j = v k := by
  induction l generalizing g with
  | nil => cases hk
  | cons k' l ih =>
      rw [List.foldl_cons]
      by_cases hkl : k ∈ l
      · exact ih _ hkl fun k'' hk'' => h k'' (List.mem_cons_of_mem _ hk'')
      · obtain rfl : k = k' := by
          rcases List.mem_cons.mp hk with h' | h'
          · exact h'
          · exact absurd h' hkl
        rw [foldl_miss l hit v _ j fun k'' hk'' hh => hkl (h k'' (List.mem_cons_of_mem _ hk'') hh ▸ hk'')]
        exact if_pos hkj

/-- An indexed store as such a chain over the lanes. -/
theorem storeIdx_foldl (g : Vec F S128 e) (v : IVec S16 32) (a : Vec F S16 e) (h : ∀ q x, ((![v] : Fin 1 → IVec S16 32) q x).toNat < S128.size q) :
    storeIdx g ![v] a (fun _ => 1#1) false h
      = (List.finRange 16).foldl (fun g k => fun j => if (j 0).val = (v (Shape.ofLane k)).toNat then a (Shape.ofLane k) else g j) g := by
  unfold storeIdx
  congr 1
  funext g' k j
  rw [if_pos (show ((fun _ => 1#1 : IVec S16 1) (Shape.ofLane k)) = 1 from rfl)]
  by_cases hj : (j 0).val = (v (Shape.ofLane k)).toNat
  · rw [if_pos hj]
    exact if_pos fun q => by obtain rfl : q = 0 := Subsingleton.elim _ _; exact hj
  · rw [if_neg hj]
    exact if_neg fun h' => hj (h' 0)

/-- Lane `k` of sixteen. -/
def laneOf (k : ℕ) (h : k < 16) : S16.Idx := Shape.ofLane (d := S16.size) ⟨k, h⟩

theorem laneOf_val (k : ℕ) (h : k < 16) : (laneOf k h 0).val = k := rfl

/-- The lane that writes pair `r` of a tile's 64, `r mod 16`, -/
abbrev pairLane (i : S128.Idx) : S16.Idx := laneOf ((i 0).val / 2 % 16) (Nat.mod_lt _ (by decide))

theorem pair_lt (i : S128.Idx) : (i 0).val < 128 := (i 0).isLt

/-- and the trip that does, `r / 16`. -/
abbrev pairTrip (i : S128.Idx) : Fin k1_t1_loop.trips := ⟨(i 0).val / 32, by rw [trips_eq]; have := pair_lt i; omega⟩

/-- An indexed store whose lanes name different places: a place lane `k` names takes lane `k`'s value, -/
theorem storeIdx_hit (g : Vec F S128 e) (v : IVec S16 32) (a : Vec F S16 e) (h : ∀ q x, ((![v] : Fin 1 → IVec S16 32) q x).toNat < S128.size q)
    (hinj : ∀ k k' : Fin 16, (v (Shape.ofLane k)).toNat = (v (Shape.ofLane k')).toNat → k = k') (j : S128.Idx) (k : Fin 16)
    (hk : (j 0).val = (v (Shape.ofLane k)).toNat) :
    storeIdx g ![v] a (fun _ => 1#1) false h j = a (Shape.ofLane k) := by
  rw [storeIdx_foldl]
  exact foldl_hit (List.finRange 16) (fun k j => (j 0).val = (v (Shape.ofLane k)).toNat) (fun k => a (Shape.ofLane k)) g j k (List.mem_finRange k) hk
    fun k' _ hk' => hinj k' k (hk'.symm.trans hk)

/-- and a place no lane names keeps its own. -/
theorem storeIdx_miss (g : Vec F S128 e) (v : IVec S16 32) (a : Vec F S16 e) (h : ∀ q x, ((![v] : Fin 1 → IVec S16 32) q x).toNat < S128.size q)
    (j : S128.Idx) (hk : ∀ k : Fin 16, (j 0).val ≠ (v (Shape.ofLane k)).toNat) :
    storeIdx g ![v] a (fun _ => 1#1) false h j = g j := by
  rw [storeIdx_foldl]
  exact foldl_miss (List.finRange 16) (fun k j => (j 0).val = (v (Shape.ofLane k)).toNat) (fun k => a (Shape.ofLane k)) g j fun k _ => hk k

theorem pairOff_inj (t : Fin k1_t1_loop.trips) (k k' : Fin 16) (h : (pairOff t (Shape.ofLane k)).toNat = (pairOff t (Shape.ofLane k')).toNat) : k = k' := by
  rw [pairOff_toNat, pairOff_toNat] at h
  have h1 : ((Shape.ofLane (d := S16.size) k : S16.Idx) 0).val = k.val := rfl
  have h2 : ((Shape.ofLane (d := S16.size) k' : S16.Idx) 0).val = k'.val := rfl
  rw [h1, h2] at h
  exact Fin.ext (by omega)

theorem pairOff'_inj (t : Fin k1_t1_loop.trips) (k k' : Fin 16) (h : (pairOff' t (Shape.ofLane k)).toNat = (pairOff' t (Shape.ofLane k')).toNat) : k = k' := by
  rw [pairOff'_toNat, pairOff'_toNat] at h
  have h1 : ((Shape.ofLane (d := S16.size) k : S16.Idx) 0).val = k.val := rfl
  have h2 : ((Shape.ofLane (d := S16.size) k' : S16.Idx) 0).val = k'.val := rfl
  rw [h1, h2] at h
  exact Fin.ext (by omega)

/-- What the tile's 128 places end up with, of the trips' first and second values. -/
def pairs (a b : Fin k1_t1_loop.trips → Vec F S16 e) : Vec F S128 e := fun i =>
  if (i 0).val % 2 = 0 then a (pairTrip i) (pairLane i) else b (pairTrip i) (pairLane i)

/-- A trip's two stores put its pairs in their places and leave the earlier trips' alone. -/
theorem storeTwo_pairs (g : Vec F S128 e) (t : Fin k1_t1_loop.trips) (a b : Fin k1_t1_loop.trips → Vec F S16 e)
    (hg : ∀ i : S128.Idx, (i 0).val < 32 * t.val → g i = pairs a b i) (i : S128.Idx) (hi : (i 0).val < 32 * (t.val + 1)) :
    storeTwo g t (a t) (b t) i = pairs a b i := by
  unfold storeTwo
  have hlane : ∀ k : Fin 16, ((Shape.ofLane (d := S16.size) k : S16.Idx) 0).val = k.val := fun _ => rfl
  by_cases hlt : (i 0).val < 32 * t.val
  · rw [storeIdx_miss _ _ _ _ _ fun k => by rw [pairOff'_toNat, hlane]; omega, storeIdx_miss _ _ _ _ _ fun k => by rw [pairOff_toNat, hlane]; omega]
    exact hg i hlt
  · have ht : pairTrip i = t := Fin.ext (by show (i 0).val / 32 = t.val; omega)
    have hl : ((pairLane i) 0).val = (i 0).val / 2 % 16 := rfl
    unfold pairs
    rw [ht]
    by_cases hpar : (i 0).val % 2 = 0
    · rw [if_pos hpar, storeIdx_miss _ _ _ _ _ fun k => by rw [pairOff'_toNat, hlane]; omega]
      exact storeIdx_hit _ _ _ _ (pairOff_inj t) i ⟨(i 0).val / 2 % 16, Nat.mod_lt _ (by decide)⟩ (by rw [pairOff_toNat, hlane]; show _ = (16 * t.val + (i 0).val / 2 % 16) * 2; omega)
    · rw [if_neg hpar]
      exact storeIdx_hit _ _ _ _ (pairOff'_inj t) i ⟨(i 0).val / 2 % 16, Nat.mod_lt _ (by decide)⟩ (by rw [pairOff'_toNat, hlane]; show _ = (16 * t.val + (i 0).val / 2 % 16) * 2 + 1; omega)

end Store

/-! ## One trip -/

section Trip
variable (d : Dev nD) (L : grid1.Coords) (f : Vec F S4096 .f32)
variable (a2 : Memref sig .scVector .hbm S131072 .f32) (h2 : a2.IsWhole) (a3 : Memref sig .scVector .hbm S4096 .f32) (h3 : a3.IsWhole)
  (a4 : Memref sig .scVector .hbm S4096 .i32) (h4 : a4.IsWhole) (h5 : sL.IsWhole) (hP : sP.IsWhole) (hI : sI.IsWhole) (r0 r1 r2 : DmaSems sig S_)

/-- A trip leaves its probabilities and its experts stored in the two result buffers. -/
theorem trip_wp (t : Fin k1_t1_loop.trips) (g : Vec F S128 .f32) (q : Vec F S128 .i32) {R : sProp 𝕄} {Q : Unit → sProp 𝕄}
    (H : iprop(rowsAt d L f ∗ probsAt d L (storeTwo g t (prob1 (trip f t)) (prob2 (trip f t))) ∗ picksAt d L (storeTwo q t (trip f t).i1 (trip f t).i2) ∗ R) ⊢ Q ⟨⟩) :
    iprop(rowsAt d L f ∗ probsAt d L g ∗ picksAt d L q ∗ R) ⊢ wp frame (wpE (defs₀ (F := F)) 𝒱₀ (V d (cV L) (jV L)) none) Set.univ
      (k1_t1_body L a2 h2 a3 h3 a4 h4 sL h5 sP hP sI hI r0 r1 r2 lanes t ⟨⟩) Q := by
  unfold k1_t1_body
  refine part1_wp d L f a2 h2 a3 h3 a4 h4 h5 sP hP sI hI r0 r1 r2 t _ ?_
  refine part2_wp d L f (rowOff t) (rowOff_inRange t) a2 h2 a3 h3 a4 h4 h5 sP hP sI hI r0 r1 r2 _ ?_
  refine part3_wp d L f (rowOff t) (rowOff_inRange t) a2 h2 a3 h3 a4 h4 h5 sP hP sI hI r0 r1 r2 _ ?_
  refine part4_wp d L f (rowOff t) (rowOff_inRange t) a2 h2 a3 h3 a4 h4 h5 sP hP sI hI r0 r1 r2 _ ?_
  refine part5_wp d L f (rowOff t) (rowOff_inRange t) a2 h2 a3 h3 a4 h4 h5 sP hP sI hI r0 r1 r2 _ ?_
  refine part6_wp d L f (rowOff t) (rowOff_inRange t) a2 h2 a3 h3 a4 h4 h5 sP hP sI hI r0 r1 r2 _ ?_
  refine part7_wp d L f (rowOff t) (rowOff_inRange t) a2 h2 a3 h3 a4 h4 h5 sP hP sI hI r0 r1 r2 _ ?_
  refine part8_wp d L f (rowOff t) (rowOff_inRange t) a2 h2 a3 h3 a4 h4 h5 sP hP sI hI r0 r1 r2 _ ?_
  refine part9_wp d L f (rowOff t) (rowOff_inRange t) a2 h2 a3 h3 a4 h4 h5 sP hP sI hI r0 r1 r2 _ ?_
  refine part10_wp d L f (rowOff t) (rowOff_inRange t) a2 h2 a3 h3 a4 h4 h5 sP hP sI hI r0 r1 r2 _ ?_
  refine part11_wp d L f (rowOff t) (rowOff_inRange t) a2 h2 a3 h3 a4 h4 h5 sP hP sI hI r0 r1 r2 _ ?_
  refine part12_wp d L f (rowOff t) (rowOff_inRange t) a2 h2 a3 h3 a4 h4 h5 sP hP sI hI r0 r1 r2 _ ?_
  refine part13_wp d L f (rowOff t) (rowOff_inRange t) a2 h2 a3 h3 a4 h4 h5 sP hP sI hI r0 r1 r2 _ ?_
  refine part14_wp d L f (rowOff t) (rowOff_inRange t) a2 h2 a3 h3 a4 h4 h5 sP hP sI hI r0 r1 r2 _ ?_
  refine part15_wp d L f (rowOff t) (rowOff_inRange t) a2 h2 a3 h3 a4 h4 h5 sP hP sI hI r0 r1 r2 _ ?_
  refine part16_wp d L f (rowOff t) (rowOff_inRange t) a2 h2 a3 h3 a4 h4 h5 sP hP sI hI r0 r1 r2 _ ?_
  refine part17_wp d L f (rowOff t) (rowOff_inRange t) a2 h2 a3 h3 a4 h4 h5 sP hP sI hI r0 r1 r2 _ ?_
  refine part18_wp d L f (rowOff t) (rowOff_inRange t) a2 h2 a3 h3 a4 h4 h5 sP hP sI hI r0 r1 r2 _ ?_
  refine part19_wp d L f a2 h2 a3 h3 a4 h4 h5 hP sI hI r0 r1 r2 t g _ ?_
  simp only [Prog.lift, Prog.bind_op, Prog.bind_ret, Prog.pure_eq_ret, SparseCore.vectorStoreIdx]
  refine (show iprop(rowsAt d L f ∗ probsAt d L (storeTwo g t (prob1 (trip f t)) (prob2 (trip f t))) ∗ picksAt d L q ∗ R)
    ⊢ iprop((rowsAt d L f ∗ probsAt d L (storeTwo g t (prob1 (trip f t)) (prob2 (trip f t)))) ∗ picksAt d L q ∗ R) from BI.sep_assoc').trans ?_
  refine step_storeI d L ?_
  refine step_check d L (C := k1_chk67 (pairOff' t)) (pairOff'_inRange t) ?_
  refine step_storeI d L ?_
  rw [wp_ret]
  iintro ⟨⟨Hf, Hp⟩, Hi, HR⟩
  imodintro
  iapply H
  isplitl [Hf]; · iexact Hf
  isplitl [Hp]; · iexact Hp
  isplitl [Hi]; · iexact Hi
  iexact HR

end Trip

end Cert.Proof.Run

end
-- ==== Proof.Task.lean ====
/-
  The SparseCore call, tile by tile. Tile (c, s) is worker `w = 2 s + c`: it fetches words `4096 w …` of the flat logits (64 rows of 64), and
  writes words `128 w …` of the two results. `scProbs`/`scPicks` are the two results as functions of the flat logits; `tile_body` proves one
  tile's task, at a symbolic tile.
-/
module

public import proofs.«01_k».proof.Proof.Tile

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The results as functions of the flat logits -/

theorem flat_lt (w j : ℕ) (hw : w < 32) (hj : j < 4096) : w * 4096 + j < 131072 := by omega

/-- The 4096 words worker `w` fetches. -/
def rowsOf (lg : Vec F S131072 .f32) (w : Fin 32) : Vec F S4096 .f32 := fun j =>
  lg fun a => ⟨w.val * 4096 + (j 0).val, by obtain rfl : a = 0 := Subsingleton.elim _ _; exact flat_lt _ _ w.isLt (j 0).isLt⟩

/-- The worker that writes a place of the results, -/
abbrev workerOf (i : S4096.Idx) : Fin 32 := ⟨(i 0).val / 128, by have : (i 0).val < 4096 := (i 0).isLt; omega⟩
/-- and the place within its 128. -/
abbrev placeOf (i : S4096.Idx) : S128.Idx := fun a => ⟨(i 0).val % 128, by obtain rfl : a = 0 := Subsingleton.elim _ _; exact Nat.mod_lt _ (by decide)⟩

/-- A tile's probabilities, -/
def tileProbs (f : Vec F S4096 .f32) : Vec F S128 .f32 := pairs (fun t => prob1 (trip f t)) (fun t => prob2 (trip f t))
/-- and its experts. -/
def tilePicks (f : Vec F S4096 .f32) : Vec F S128 .i32 := pairs (F := F) (e := .i32) (fun t => (trip f t).i1) (fun t => (trip f t).i2)

/-- The call's probabilities, -/
def scProbs (lg : Vec F S131072 .f32) : Vec F S4096 .f32 := fun i => tileProbs (rowsOf lg (workerOf i)) (placeOf i)
/-- and its experts. -/
def scPicks (lg : Vec F S131072 .f32) : Vec F S4096 .i32 := fun i => tilePicks (rowsOf lg (workerOf i)) (placeOf i)

/-! ## Whose words are whose -/

/-- The words of the flat logits that worker `w` fetches, -/
def lSet (w : ℕ) : Finset S131072.Idx := Finset.univ.filter fun i => (i 0).val / 4096 = w
/-- and the words of either result it writes. -/
def oSet (w : ℕ) : Finset S4096.Idx := Finset.univ.filter fun i => (i 0).val / 128 = w

abbrev lV : Memref sig .scVector .hbm S131072 .f32 := Memref.whole main_v5_scv
abbrev pV : Memref sig .scVector .hbm S4096 .f32 := Memref.whole main_v6_0_scv
abbrev iV : Memref sig .scVector .hbm S4096 .i32 := Memref.whole main_v6_1_scv

abbrev lLoc (d : Dev nD) : Loc nD τ sig := (SparseCore.T d).loc main_v5
abbrev pLoc (d : Dev nD) : Loc nD τ sig := (SparseCore.T d).loc main_v6_0
abbrev iLoc (d : Dev nD) : Loc nD τ sig := (SparseCore.T d).loc main_v6_1

section Pieces
variable (d : Dev nD) (L : grid1.Coords)

/-- The worker at a coordinate pair. -/
abbrev wk (L : grid1.Coords) : ℕ := 2 * (L 1).val + (L 0).val

theorem wk_lt (L : grid1.Coords) : wk L < 32 := by
  have h0 : (L 0).val < 2 := (L 0).isLt
  have h1 : (L 1).val < 16 := (L 1).isLt
  show 2 * (L 1).val + (L 0).val < 32
  omega

/-- The pieces of the three arrays as the task addresses them. -/
abbrev lPiece : Memref sig .scVector .hbm S4096 .f32 := lV.slice (Rect.unit (s := S131072) (k1_off1 L) S4096.size (k1_off1_inb L)) (fun _ => rfl)
abbrev pPiece : Memref sig .scVector .hbm S128 .f32 := pV.slice (Rect.unit (s := S4096) (k1_off2 L) S128.size (k1_off2_inb L)) (fun _ => rfl)
abbrev iPiece : Memref sig .scVector .hbm S128 .i32 := iV.slice (Rect.unit (s := S4096) (k1_off2 L) S128.size (k1_off2_inb L)) (fun _ => rfl)

theorem off1_zero : (k1_off1 L) 0 = 4096 * wk L := by
  rw [k1_off1_eq]; show 8192 * (L 1).val + 4096 * (L 0).val = 4096 * (2 * (L 1).val + (L 0).val); omega
theorem off2_zero : (k1_off2 L) 0 = 128 * wk L := by
  rw [k1_off2_eq]; show 256 * (L 1).val + 128 * (L 0).val = 128 * (2 * (L 1).val + (L 0).val); omega

theorem set_lRect : (Rect.unit (s := S131072) (k1_off1 L) S4096.size (k1_off1_inb L)).set = lSet (wk L) := by
  ext i
  rw [Rect.mem_set_unit]
  unfold lSet
  rw [Finset.mem_filter]
  have h := off1_zero L
  have hs : S4096.size 0 = 4096 := rfl
  constructor
  · intro hi
    have h0 := hi 0
    rw [h, hs] at h0
    exact ⟨Finset.mem_univ _, by omega⟩
  · rintro ⟨-, hi⟩ a
    obtain rfl : a = 0 := Subsingleton.elim _ _
    rw [h, hs]
    constructor <;> omega

theorem set_lPiece : (lPiece L).view.set = lSet (wk L) := by
  show ((View.whole (main_v5_scv : Ref sig .scVector)).slice (Rect.unit (s := S131072) (k1_off1 L) S4096.size (k1_off1_inb L))).set = _
  rw [View.set_slice_whole]
  exact set_lRect L

theorem set_oRect : (Rect.unit (s := S4096) (k1_off2 L) S128.size (k1_off2_inb L)).set = oSet (wk L) := by
  ext i
  rw [Rect.mem_set_unit]
  unfold oSet
  rw [Finset.mem_filter]
  have h := off2_zero L
  have hs : S128.size 0 = 128 := rfl
  constructor
  · intro hi
    have h0 := hi 0
    rw [h, hs] at h0
    exact ⟨Finset.mem_univ _, by omega⟩
  · rintro ⟨-, hi⟩ a
    obtain rfl : a = 0 := Subsingleton.elim _ _
    rw [h, hs]
    constructor <;> omega

theorem set_pPiece : (pPiece L).view.set = oSet (wk L) := by
  show ((View.whole (main_v6_0_scv : Ref sig .scVector)).slice (Rect.unit (s := S4096) (k1_off2 L) S128.size (k1_off2_inb L))).set = _
  rw [View.set_slice_whole]; exact set_oRect L
theorem set_iPiece : (iPiece L).view.set = oSet (wk L) := by
  show ((View.whole (main_v6_1_scv : Ref sig .scVector)).slice (Rect.unit (s := S4096) (k1_off2 L) S128.size (k1_off2_inb L))).set = _
  rw [View.set_slice_whole]; exact set_oRect L

theorem pts_lPiece (f : Buf (Elt F) (lLoc d)) :
    ((lPiece L).view.loc (V d (cV L) (jV L)) ↦[(lPiece L).view.set]{fullShare} f : sProp 𝕄) = lLoc d ↦[lSet (wk L)]{fullShare} f := by
  rw [set_lPiece]
theorem pts_pPiece (f : Buf (Elt F) (pLoc d)) :
    ((pPiece L).view.loc (V d (cV L) (jV L)) ↦[(pPiece L).view.set]{fullShare} f : sProp 𝕄) = pLoc d ↦[oSet (wk L)]{fullShare} f := by
  rw [set_pPiece]
theorem pts_iPiece (f : Buf (Elt F) (iLoc d)) :
    ((iPiece L).view.loc (V d (cV L) (jV L)) ↦[(iPiece L).view.set]{fullShare} f : sProp 𝕄) = iLoc d ↦[oSet (wk L)]{fullShare} f := by
  rw [set_iPiece]

theorem pts_sL (f : Buf (Elt F) ((V d (cV L) (jV L)).loc cc1_scratch0)) :
    (sL.view.loc (V d (cV L) (jV L)) ↦{fullShare} f : sProp 𝕄) = (V d (cV L) (jV L)).loc cc1_scratch0 ↦{fullShare} f := rfl
theorem pts_sP (f : Buf (Elt F) ((V d (cV L) (jV L)).loc cc1_scratch1)) :
    (sP.view.loc (V d (cV L) (jV L)) ↦{fullShare} f : sProp 𝕄) = (V d (cV L) (jV L)).loc cc1_scratch1 ↦{fullShare} f := rfl
theorem pts_sI (f : Buf (Elt F) ((V d (cV L) (jV L)).loc cc1_scratch2)) :
    (sI.view.loc (V d (cV L) (jV L)) ↦{fullShare} f : sProp 𝕄) = (V d (cV L) (jV L)).loc cc1_scratch2 ↦{fullShare} f := rfl

/-- The three cells the task's copies credit. -/
abbrev cA (d : Dev nD) (c : Fin τ.nSC) (i : Fin τ.nSub) : GSem nD τ sig := (V d c i, .dma cc1_scoped0.sem)
abbrev cB (d : Dev nD) (c : Fin τ.nSC) (i : Fin τ.nSub) : GSem nD τ sig := (V d c i, .dma cc1_scoped1.sem)
abbrev cC (d : Dev nD) (c : Fin τ.nSC) (i : Fin τ.nSub) : GSem nD τ sig := (V d c i, .dma cc1_scoped2.sem)

theorem ownSems0_V :
    (ownSems0 (V d (cV L) (jV L)) : sProp 𝕄)
      = iprop(semVal (cA d (cV L) (jV L)) 0 ∗ semVal (cB d (cV L) (jV L)) 0 ∗ semVal (cC d (cV L) (jV L)) 0
          ∗ bigSep ((((ownCells (V d (cV L) (jV L))).erase (cA d (cV L) (jV L))).erase (cB d (cV L) (jV L))).erase (cC d (cV L) (jV L))) fun g => semVal g 0) := by
  unfold SparseCore.Cfg.ownSems0
  rw [SparseCore.bigSep_erase' ((mem_ownCells (g := cA d (cV L) (jV L))).mpr ⟨rfl, by
      show (SemLoc.dma cc1_scoped0.sem : SemLoc sig).isScoped .scVector = true; decide⟩),
    SparseCore.bigSep_erase' (Finset.mem_erase.mpr ⟨by simp [cA, cB]; decide, (mem_ownCells (g := cB d (cV L) (jV L))).mpr ⟨rfl, by
      show (SemLoc.dma cc1_scoped1.sem : SemLoc sig).isScoped .scVector = true; decide⟩⟩),
    SparseCore.bigSep_erase' (Finset.mem_erase.mpr ⟨by simp [cB, cC]; decide, Finset.mem_erase.mpr ⟨by simp [cA, cC]; decide,
      (mem_ownCells (g := cC d (cV L) (jV L))).mpr ⟨rfl, by show (SemLoc.dma cc1_scoped2.sem : SemLoc sig).isScoped .scVector = true; decide⟩⟩⟩)]

theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
      SparseCore.Cfg.mem_ownRefs_of_owner (p := Proc.scVector (cV L) (jV L)) (b := (Proc.scVector (cV L) (jV L)).devRef cc1_scratch2) rfl⟩⟩)]

end Pieces

/-! ## The task -/

section Task
variable (d : Dev nD) (L : grid1.Coords) (f : Vec F S4096 .f32)

/-- Before trip `k`: the rows as fetched, the first `32 k` places of the two result buffers filled. -/
def inv (k : ℕ) : sProp 𝕄 := iprop(rowsAt d L f
  ∗ (∃ g : Vec F S128 .f32, ⌜∀ i : S128.Idx, (i 0).val < 32 * k → g i = tileProbs f i⌝ ∗ probsAt d L g)
  ∗ (∃ q : Vec F S128 .i32, ⌜∀ i : S128.Idx, (i 0).val < 32 * k → q i = tilePicks f i⌝ ∗ picksAt d L q))

/-- One trip takes the invariant on. -/
theorem inv_step (a2 : Memref sig .scVector .hbm S131072 .f32) (h2 : a2.IsWhole) (a3 : Memref sig .scVector .hbm S4096 .f32) (h3 : a3.IsWhole)
    (a4 : Memref sig .scVector .hbm S4096 .i32) (h4 : a4.IsWhole) (h5 : sL.IsWhole) (hP : sP.IsWhole) (hI : sI.IsWhole) (r0 r1 r2 : DmaSems sig S_)
    (t : Fin k1_t1_loop.trips) :
    inv d L f t.val ⊢ wp frame (wpE (defs₀ (F := F)) 𝒱₀ (V d (cV L) (jV L)) none) Set.univ
      (k1_t1_body L a2 h2 a3 h3 a4 h4 sL h5 sP hP sI hI r0 r1 r2 lanes t ⟨⟩) fun _ => inv d L f (t.val + 1) := by
  unfold inv
  iintro ⟨Hf, ⟨%g, %hg, Hp⟩, ⟨%q, %hq, Hi⟩⟩
  iapply (trip_wp d L f a2 h2 a3 h3 a4 h4 h5 hP hI r0 r1 r2 t g q (R := (iprop(emp) : sProp 𝕄)) (by
    iintro ⟨Hf, Hp, Hi, -⟩
    isplitl [Hf]; · iexact Hf
    isplitl [Hp]
    · iexists _; isplitr
      swap; · iexact Hp
      ipureintro
      exact fun i hi => storeTwo_pairs g t (fun t => prob1 (trip f t)) (fun t => prob2 (trip f t)) hg i hi
    · iexists _; isplitr
      swap; · iexact Hi
      ipureintro
      exact fun i hi => storeTwo_pairs (F := F) (e := .i32) q t (fun t => (trip f t).i1) (fun t => (trip f t).i2) hq i hi))
  isplitl [Hf]; · iexact Hf
  isplitl [Hp]; · iexact Hp
  isplitl [Hi]; · iexact Hi
  iempintro

end Task

/-- Worker `w`'s words of the flat logits and of the two results, held at given contents. -/
abbrev lPts (d : Dev nD) (w : ℕ) (f : Buf (Elt F) (lLoc d)) : sProp 𝕄 := lLoc d ↦[lSet w]{fullShare} f
abbrev pPts (d : Dev nD) (w : ℕ) (f : Buf (Elt F) (pLoc d)) : sProp 𝕄 := pLoc d ↦[oSet w]{fullShare} f
abbrev iPts (d : Dev nD) (w : ℕ) (f : Buf (Elt F) (iLoc d)) : sProp 𝕄 := iLoc d ↦[oSet w]{fullShare} f

/-- What the tile's words of the flat logits read. -/
theorem read_lPiece (L : grid1.Coords) (lg : Vec F S131072 .f32) : (lPiece L).view.read (Elt F) lg = rowsOf lg ⟨wk L, wk_lt L⟩ := by
  funext j
  show lg ((Rect.unit (s := S131072) (k1_off1 L) S4096.size (k1_off1_inb L)).emb j) = lg _
  congr 1
  funext a
  obtain rfl : a = 0 := Subsingleton.elim _ _
  refine Fin.ext ?_
  show (k1_off1 L) 0 + 1 * (j 0).val = wk L * 4096 + (j 0).val
  rw [off1_zero]; omega

/-- A place of worker `wk L`'s words, as the array counts it. -/
theorem emb_oRect (L : grid1.Coords) (x : S128.Idx) :
    ((Rect.unit (s := S4096) (k1_off2 L) S128.size (k1_off2_inb L)).emb x 0).val = 128 * wk L + (x 0).val := by
  show (k1_off2 L) 0 + 1 * (x 0).val = _
  rw [off2_zero]; omega

theorem workerOf_emb (L : grid1.Coords) (x : S128.Idx) :
    workerOf ((Rect.unit (s := S4096) (k1_off2 L) S128.size (k1_off2_inb L)).emb x) = ⟨wk L, wk_lt L⟩ := by
  have h := emb_oRect L x
  have hx := pair_lt x
  refine Fin.ext ?_
  show ((Rect.unit (s := S4096) (k1_off2 L) S128.size (k1_off2_inb L)).emb x 0).val / 128 = wk L
  omega

theorem placeOf_emb (L : grid1.Coords) (x : S128.Idx) :
    placeOf ((Rect.unit (s := S4096) (k1_off2 L) S128.size (k1_off2_inb L)).emb x) = x := by
  have h := emb_oRect L x
  have hx := pair_lt x
  funext a
  obtain rfl : a = 0 := Subsingleton.elim _ _
  refine Fin.ext ?_
  show ((Rect.unit (s := S4096) (k1_off2 L) S128.size (k1_off2_inb L)).emb x 0).val % 128 = (x 0).val
  omega

theorem pPiece_written (d : Dev nD) (L : grid1.Coords) (lg : Vec F S131072 .f32) (p0 : Buf (Elt F) (pLoc d)) :
    ((pPiece L).view.loc (V d (cV L) (jV L)) ↦[(pPiece L).view.set]{fullShare}
      (pPiece L).view.writes (Elt F) p0 [⟨Rect.whole S128, tileProbs (rowsOf lg ⟨wk L, wk_lt L⟩)⟩] : sProp 𝕄) = pPts d (wk L) (scProbs lg) := by
  refine Eq.trans (pointsTo_congr fun i hi => ?_) (pts_pPiece d L (scProbs lg))
  obtain ⟨x, -, rfl⟩ := Finset.mem_map.mp hi
  have h := View.read_writes_cons_emb (v := (pPiece L).view) (Val := Elt F) (f := p0) (Rect.whole S128) (tileProbs (rowsOf lg ⟨wk L, wk_lt L⟩)) [] x
  rw [Rect.emb_whole_apply] at h
  refine Eq.trans h ?_
  show _ = tileProbs (rowsOf lg (workerOf ((Rect.unit (s := S4096) (k1_off2 L) S128.size (k1_off2_inb L)).emb x))) (placeOf ((Rect.unit (s := S4096) (k1_off2 L) S128.size (k1_off2_inb L)).emb x))
  rw [workerOf_emb, placeOf_emb]

theorem iPiece_written (d : Dev nD) (L : grid1.Coords) (lg : Vec F S131072 .f32) (i0 : Buf (Elt F) (iLoc d)) :
    ((iPiece L).view.loc (V d (cV L) (jV L)) ↦[(iPiece L).view.set]{fullShare}
      (iPiece L).view.writes (Elt F) i0 [⟨Rect.whole S128, tilePicks (rowsOf lg ⟨wk L, wk_lt L⟩)⟩] : sProp 𝕄) = iPts d (wk L) (scPicks lg) := by
  refine Eq.trans (pointsTo_congr fun i hi => ?_) (pts_iPiece d L (scPicks lg))
  obtain ⟨x, -, rfl⟩ := Finset.mem_map.mp hi
  have h := View.read_writes_cons_emb (v := (iPiece L).view) (Val := Elt F) (f := i0) (Rect.whole S128) (tilePicks (rowsOf lg ⟨wk L, wk_lt L⟩)) [] x
  rw [Rect.emb_whole_apply] at h
  refine Eq.trans h ?_
  show _ = tilePicks (rowsOf lg (workerOf ((Rect.unit (s := S4096) (k1_off2 L) S128.size (k1_off2_inb L)).emb x))) (placeOf ((Rect.unit (s := S4096) (k1_off2 L) S128.size (k1_off2_inb L)).emb x))
  rw [workerOf_emb, placeOf_emb]

/-- The task on tile `(L 0, L 1)`: from its words of the three arrays, its words of the two results at `scProbs` and `scPicks`. -/
theorem tile_body (d : Dev nD) (L : grid1.Coords) (lg : Vec F S131072 .f32) (p0 : Buf (Elt F) (pLoc d)) (i0 : Buf (Elt F) (iLoc d))
    (hF : (K (F := F)).Facts) (O : CellTallies nD τ sig (HIx 1)) (W : Waits sig (HIx 1)) (hO : ∀ g, O g none = 0) :
    iprop(levAts (K (F := F)).L (K (F := F)).lev ∗ emp
        ∗ (lPts d (wk L) lg ∗ pPts d (wk L) p0 ∗ iPts d (wk L) i0)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_topk_body L lV (Memref.isWhole_whole _) pV (Memref.isWhole_whole _) iV (Memref.isWhole_whole _)
            sL (Memref.isWhole_whole _) sP (Memref.isWhole_whole _) sI (Memref.isWhole_whole _) cc1_scoped0 cc1_scoped1 cc1_scoped2)
          fun _ => iprop((lPts d (wk L) lg ∗ pPts d (wk L) (scProbs lg) ∗ iPts d (wk L) (scPicks lg))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨Hl, Hp, Hi⟩, ⟨⟨%fs, Hs⟩, ⟨%fc, Hc⟩, ⟨%fu, Hu⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hl' := (Entails.of_eq (pts_lPiece (F := F) d L _).symm) $$ Hl
  ihave Hp' := (Entails.of_eq (pts_pPiece (F := F) d L _).symm) $$ Hp
  ihave Hi' := (Entails.of_eq (pts_iPiece (F := F) d L _).symm) $$ Hi
  ihave Hs' := (Entails.of_eq (pts_sL (F := F) d L _).symm) $$ Hs
  ihave Hc' := (Entails.of_eq (pts_sP (F := F) d L _).symm) $$ Hc
  ihave Hu' := (Entails.of_eq (pts_sI (F := F) d L _).symm) $$ Hu
  sl_unfold [cc1__sc_topk_body]
  sl_exec
  rw [show View.write (Elt F) sL.view fs (tile_body.sl.dma0 L lg) Finset.univ = rowsOf lg ⟨wk L, wk_lt L⟩ from
    (View.write_whole_univ (Val := Elt F) cc1_scratch0 fs _).trans (read_lPiece L lg)]
  sl_for (fun k _ => inv d L (rowsOf lg ⟨wk L, wk_lt L⟩) k) $$ [Hs' Hc' Hu']
  case region =>
    intro t _
    exact inv_step d L _ _ _ _ _ _ _ _ _ _ _ _ _ t
  · unfold inv
    isplitl [Hs']; · iexact Hs'
    isplitl [Hc']
    · iexists _; isplitr
      swap; · iexact Hc'
      ipureintro; intro i hi; omega
    · iexists _; isplitr
      swap; · iexact Hu'
      ipureintro; intro i hi; omega
  iintro %_ HI
  unfold inv
  icases HI with ⟨Hs, ⟨%g, %hg, Hc⟩, ⟨%q, %hq, Hu⟩⟩
  have hgt : g = tileProbs (rowsOf lg ⟨wk L, wk_lt L⟩) := funext fun i => hg i (by show (i 0).val < 32 * k1_t1_loop.trips; rw [trips_eq]; exact pair_lt i)
  have hqt : q = tilePicks (rowsOf lg ⟨wk L, wk_lt L⟩) := funext fun i => hq i (by show (i 0).val < 32 * k1_t1_loop.trips; rw [trips_eq]; exact pair_lt i)
  ihave Hs' := (Entails.of_eq (pts_sL (F := F) d L _).symm) $$ Hs
  ihave Hc' := (Entails.of_eq (pts_sP (F := F) d L _).symm) $$ Hc
  ihave Hu' := (Entails.of_eq (pts_sI (F := F) d L _).symm) $$ Hu
  sl_exec
  sl_step
  have hdP : tile_body.sl.dma0_1 g = tileProbs (rowsOf lg ⟨wk L, wk_lt L⟩) := hgt
  have hdI : tile_body.sl.dma0_2 q = tilePicks (rowsOf lg ⟨wk L, wk_lt L⟩) := hqt
  rw [hdP, hdI]
  isplitl [Hl' Hp' Hi']
  · isplitl [Hl']; · iapply (Entails.of_eq (pts_lPiece (F := F) d L lg)); iexact Hl'
    isplitl [Hp']; · iapply (Entails.of_eq (pPiece_written (F := F) d L lg p0)); iexact Hp'
    iapply (Entails.of_eq (iPiece_written (F := F) d L lg i0)); iexact Hi'
  isplitl [Hs' Hc' Hu' Hbufs]
  · isplitl [Hs']; · iexists _; iexact Hs'
    isplitl [Hc']; · iexists _; iexact Hc'
    isplitl [Hu']; · iexists _; iexact Hu'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p _
  rcases p.2 with _ | q
  · exact .inr (.inl rfl)
  · exact .inr (.inr (congrArg some (Subsingleton.elim q 0)))

/-! ## The launch theorem's obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_topk_body (coordsV c s) lV (Memref.isWhole_whole _) pV (Memref.isWhole_whole _) iV (Memref.isWhole_whole _)
            sL (Memref.isWhole_whole _) sP (Memref.isWhole_whole _) sI (Memref.isWhole_whole _) cc1_scoped0 cc1_scoped1 cc1_scoped2) ⟨⟩ c s := rfl

end Cert.Proof.Run

end
-- ==== Proof.ScCall.lean ====
/-
  What the SparseCore call's handshakes carry, and how the arrays divide among them. SparseCore `c` is handed the words of its sixteen workers
  (`w ≡ c mod 2`), each of its tiles the words of its own worker; back come the same words, the results' filled in.
-/
module

public import proofs.«01_k».proof.Proof.Task

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The words of one SparseCore -/

/-- The words of the flat logits SparseCore `c`'s workers fetch, -/
def lCore (c : ℕ) : Finset S131072.Idx := Finset.univ.filter fun i => (i 0).val / 4096 % 2 = c
/-- and the words of either result they write. -/
def oCore (c : ℕ) : Finset S4096.Idx := Finset.univ.filter fun i => (i 0).val / 128 % 2 = c

theorem lSet_disjoint (c : ℕ) : ∀ i ∈ (Finset.univ : Finset (Fin 16)), ∀ j ∈ (Finset.univ : Finset (Fin 16)), i ≠ j → Disjoint (lSet (2 * i.val + c)) (lSet (2 * j.val + c)) := by
  intro i _ j _ hij
  rw [Finset.disjoint_left]
  intro x hx hx'
  have h1 := (Finset.mem_filter.mp hx).2
  have h2 := (Finset.mem_filter.mp hx').2
  exact hij (Fin.ext (by omega))
theorem oSet_disjoint (c : ℕ) : ∀ i ∈ (Finset.univ : Finset (Fin 16)), ∀ j ∈ (Finset.univ : Finset (Fin 16)), i ≠ j → Disjoint (oSet (2 * i.val + c)) (oSet (2 * j.val + c)) := by
  intro i _ j _ hij
  rw [Finset.disjoint_left]
  intro x hx hx'
  have h1 := (Finset.mem_filter.mp hx).2
  have h2 := (Finset.mem_filter.mp hx').2
  exact hij (Fin.ext (by omega))
theorem lCore_disjoint : ∀ i ∈ (Finset.univ : Finset (Fin 2)), ∀ j ∈ (Finset.univ : Finset (Fin 2)), i ≠ j → Disjoint (lCore i.val) (lCore j.val) := by
  intro i _ j _ hij
  rw [Finset.disjoint_left]
  intro x hx hx'
  have h1 := (Finset.mem_filter.mp hx).2
  have h2 := (Finset.mem_filter.mp hx').2
  exact hij (Fin.ext (by omega))
theorem oCore_disjoint : ∀ i ∈ (Finset.univ : Finset (Fin 2)), ∀ j ∈ (Finset.univ : Finset (Fin 2)), i ≠ j → Disjoint (oCore i.val) (oCore j.val) := by
  intro i _ j _ hij
  rw [Finset.disjoint_left]
  intro x hx hx'
  have h1 := (Finset.mem_filter.mp hx).2
  have h2 := (Finset.mem_filter.mp hx').2
  exact hij (Fin.ext (by omega))

theorem lCore_cover (c : Fin 2) : (Finset.univ : Finset (Fin 16)).biUnion (fun i => lSet (2 * i.val + c.val)) = lCore c.val := by
  ext x
  have hx : (x 0).val < 131072 := (x 0).isLt
  have hc := c.isLt
  simp only [Finset.mem_biUnion, Finset.mem_univ, true_and, lSet, lCore, Finset.mem_filter]
  constructor
  · rintro ⟨i, hi⟩; omega
  · intro h; exact ⟨⟨(x 0).val / 4096 / 2, by omega⟩, by show _ = 2 * ((x 0).val / 4096 / 2) + c.val; omega⟩
theorem oCore_cover (c : Fin 2) : (Finset.univ : Finset (Fin 16)).biUnion (fun i => oSet (2 * i.val + c.val)) = oCore c.val := by
  ext x
  have hx : (x 0).val < 4096 := (x 0).isLt
  have hc := c.isLt
  simp only [Finset.mem_biUnion, Finset.mem_univ, true_and, oSet, oCore, Finset.mem_filter]
  constructor
  · rintro ⟨i, hi⟩; omega
  · intro h; exact ⟨⟨(x 0).val / 128 / 2, by omega⟩, by show _ = 2 * ((x 0).val / 128 / 2) + c.val; omega⟩
theorem lAll_cover : (Finset.univ : Finset (Fin 2)).biUnion (fun c => lCore c.val) = Finset.univ := by
  ext x
  simp only [Finset.mem_biUnion, Finset.mem_univ, true_and, lCore, Finset.mem_filter, iff_true]
  exact ⟨⟨(x 0).val / 4096 % 2, Nat.mod_lt _ (by decide)⟩, rfl⟩
theorem oAll_cover : (Finset.univ : Finset (Fin 2)).biUnion (fun c => oCore c.val) = Finset.univ := by
  ext x
  simp only [Finset.mem_biUnion, Finset.mem_univ, true_and, oCore, Finset.mem_filter, iff_true]
  exact ⟨⟨(x 0).val / 128 % 2, Nat.mod_lt _ (by decide)⟩, rfl⟩

/-! ## What the handshakes carry -/

variable (lg : Dev nD → Vec F S131072 .f32) (p0 : (d : Dev nD) → Buf (Elt F) (pLoc d)) (i0 : (d : Dev nD) → Buf (Elt F) (iLoc d))

/-- Words of the three arrays: one worker's, -/
abbrev tilePts (d : Dev nD) (w : ℕ) (l : Buf (Elt F) (lLoc d)) (p : Buf (Elt F) (pLoc d)) (i : Buf (Elt F) (iLoc d)) : sProp 𝕄 :=
  iprop(lPts d w l ∗ pPts d w p ∗ iPts d w i)
/-- one SparseCore's, -/
abbrev corePts (d : Dev nD) (c : ℕ) (l : Buf (Elt F) (lLoc d)) (p : Buf (Elt F) (pLoc d)) (i : Buf (Elt F) (iLoc d)) : sProp 𝕄 :=
  iprop((lLoc d ↦[lCore c]{fullShare} l) ∗ (pLoc d ↦[oCore c]{fullShare} p) ∗ (iLoc d ↦[oCore c]{fullShare} i))
/-- all of them. -/
abbrev allPts (d : Dev nD) (l : Buf (Elt F) (lLoc d)) (p : Buf (Elt F) (pLoc d)) (i : Buf (Elt F) (iLoc d)) : sProp 𝕄 :=
  iprop((lLoc d ↦{fullShare} l) ∗ (pLoc d ↦{fullShare} p) ∗ (iLoc d ↦{fullShare} i))

/-- The call takes the flat logits at `lg` and the two results at any contents; it brings the results back at `scProbs lg`, `scPicks lg`. -/
def P : (K (F := F)).Pay (nD := nD) (Val := Elt F) (Name := ℕ) (U := UU) where
  st := fun q d c => match q with | 0 => corePts d c.val (lg d) (p0 d) (i0 d)
  dn := fun q d c => match q with | 0 => corePts d c.val (lg d) (scProbs (lg d)) (scPicks (lg d))
  go := fun q d c i => match q with | 0 => tilePts d (2 * i.val + c.val) (lg d) (p0 d) (i0 d)
  td := fun q d c i => match q with | 0 => tilePts d (2 * i.val + c.val) (lg d) (scProbs (lg d)) (scPicks (lg d))
  x := fun _ _ => iprop(emp)

instance P_storable : (P (F := F) lg p0 i0).IsStorable where
  st q d c := match q with | 0 => (inferInstance : BI.Storable (upEmb : UEmb _ 𝕄) (corePts d c.val (lg d) (p0 d) (i0 d)))
  dn q d c := match q with | 0 => (inferInstance : BI.Storable (upEmb : UEmb _ 𝕄) (corePts d c.val (lg d) (scProbs (lg d)) (scPicks (lg d))))
  go q d c i := match q with | 0 => (inferInstance : BI.Storable (upEmb : UEmb _ 𝕄) (tilePts d (2 * i.val + c.val) (lg d) (p0 d) (i0 d)))
  td q d c i := match q with | 0 => (inferInstance : BI.Storable (upEmb : UEmb _ 𝕄) (tilePts d (2 * i.val + c.val) (lg d) (scProbs (lg d)) (scPicks (lg d))))

/-- A tile's task meets the call's obligation. -/
theorem tileObl (hF : (K (F := F)).Facts) : (K (F := F)).TileObl (D (F := F)) 𝒱 (P lg p0 i0) v₀ 0 := by
  intro d c i O W hO _ _
  simp only [show (P lg p0 i0).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) (lg d) (p0 d) (i0 d) hF O W hO

theorem core_tiles (d : Dev nD) (c : Fin 2) (l : Buf (Elt F) (lLoc d)) (p : Buf (Elt F) (pLoc d)) (i : Buf (Elt F) (iLoc d)) :
    (corePts d c.val l p i : sProp 𝕄) = bigSep Finset.univ fun s : Fin 16 => tilePts d (2 * s.val + c.val) l p i := by
  unfold corePts tilePts
  rw [bigSep_sep', bigSep_sep', ← lCore_cover c, ← oCore_cover c]
  rw [pointsTo_biUnion Finset.univ (ℓ := lLoc d) _ (lSet_disjoint c.val), pointsTo_biUnion Finset.univ (ℓ := pLoc d) _ (oSet_disjoint c.val),
    pointsTo_biUnion Finset.univ (ℓ := iLoc d) _ (oSet_disjoint c.val)]

theorem all_cores (d : Dev nD) (l : Buf (Elt F) (lLoc d)) (p : Buf (Elt F) (pLoc d)) (i : Buf (Elt F) (iLoc d)) :
    (allPts d l p i : sProp 𝕄) = bigSep Finset.univ fun c : Fin 2 => corePts d c.val l p i := by
  unfold corePts allPts
  rw [bigSep_sep', bigSep_sep', ← pointsTo_biUnion Finset.univ (ℓ := lLoc d) _ lCore_disjoint, ← pointsTo_biUnion Finset.univ (ℓ := pLoc d) _ oCore_disjoint,
    ← pointsTo_biUnion Finset.univ (ℓ := iLoc d) _ oCore_disjoint, lAll_cover, oAll_cover]

/-- A SparseCore's words split into its tiles' and gather again. -/
theorem vecSplit : (K (F := F)).VecSplit' (P lg p0 i0) 0 := by
  intro d c
  show corePts d c.val (lg d) (p0 d) (i0 d) ⊢ |={Set.univ}=> iprop(
      (bigSep Finset.univ fun i : Fin 16 => tilePts d (2 * i.val + c.val) (lg d) (p0 d) (i0 d))
      ∗ ((bigSep Finset.univ fun i : Fin 16 => tilePts d (2 * i.val + c.val) (lg d) (scProbs (lg d)) (scPicks (lg d)))
          -∗ corePts d c.val (lg d) (scProbs (lg d)) (scPicks (lg d))))
  rw [core_tiles d (⟨c.val, c.isLt⟩ : Fin 2) (lg d) (p0 d) (i0 d), core_tiles d (⟨c.val, c.isLt⟩ : Fin 2) (lg d) (scProbs (lg d)) (scPicks (lg d))]
  iintro H; imodintro
  isplitl [H]; · iexact H
  iintro H; iexact H

/-- What all SparseCores are handed is the three arrays whole, -/
theorem st0_eq (d : Dev nD) : (bigSep Finset.univ fun c : Fin ((K (F := F)).nCore 0) => (P lg p0 i0).st 0 d c) = allPts d (lg d) (p0 d) (i0 d) :=
  (all_cores d (lg d) (p0 d) (i0 d)).symm
/-- and what they bring back is too. -/
theorem dn0_eq (d : Dev nD) : (bigSep Finset.univ fun c : Fin ((K (F := F)).nCore 0) => (P lg p0 i0).dn 0 d c) = allPts d (lg d) (scProbs (lg d)) (scPicks (lg d)) :=
  (all_cores d (lg d) (scProbs (lg d)) (scPicks (lg d))).symm

end Cert.Proof.Run

end
-- ==== Proof.TcBody.lean ====
/-
  The bodies of the two TensorCore kernels run on whole staging buffers: what each leaves in its result buffers, over what it reads.
-/
module

public import proofs.«01_k».proof.Proof.Setup
public import Idealize.ShloMosaic.Lib.VecWindow

@[expose] public section

noncomputable section

namespace Cert.Proof.Run

open Cert.KernelIdeal Cert.KernelIdeal.Gen

open Idealize.ShloMosaic
open Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- Memref `M`'s buffer on core `c`, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- Owning a whole memref at `X` is holding its buffer at some contents that read `X`. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]

/-- The first kernel's body on whole buffers: it leaves its four inputs as they were and `k0_pay1` of them in the logits' buffer. -/
theorem k0_run (c : Dev nD) (i : grid0.Coords) (M1 : Memref sig .tc .vmem S2048x2048 .f32) (h1 : M1.IsWhole)
    (M2 : Memref sig .tc .vmem S1x2048 .f32) (h2 : M2.IsWhole)
    (M3 : Memref sig .tc .vmem S1x2048 .f32) (h3 : M3.IsWhole)
    (M4 : Memref sig .tc .vmem S2048x64 .f32) (h4 : M4.IsWhole)
    (M5 : Memref sig .tc .vmem S2048x64 .f32) (h5 : M5.IsWhole)
    (x1 : Vec F S2048x2048 .f32)
    (x2 : Vec F S1x2048 .f32)
    (x3 : Vec F S1x2048 .f32)
    (x4 : Vec F S2048x64 .f32)
    (x5 : Vec F S2048x64 .f32) (Q : PUnit → sProp 𝕄) :
    iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5
      ∗ (((owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare (k0_pay1 x1 x2 x3 x4) : sProp 𝕄)) -∗ Q ⟨⟩))
    ⊢ wp frame (wpE (defs₀ (F := F)) Variants.none c none) Set.univ (cc0__tc_logits_kernel i M1 h1 M2 h2 M3 h3 M4 h4 M5 h5) Q := by
  rw [cc0__tc_logits_kernel_eq_skeleton]
  unfold cc0__tc_logits_kernel_skel
  rw [k0_part1_eq_skeleton]
  unfold k0_part1_skel
  rw [owns_pt c _ h1, owns_pt c _ h2, owns_pt c _ h3, owns_pt c _ h4, owns_pt c _ h5]
  iintro ⟨⟨%f1, %e1, H1⟩, ⟨%f2, %e2, H2⟩, ⟨%f3, %e3, H3⟩, ⟨%f4, %e4, H4⟩, ⟨%f5, %e5, H5⟩, Hk⟩
  subst e1 e2 e3 e4 e5
  sl_exec!
  sl_step
  iapply Hk
  isplitl [H1]
  · iexists _; isplitr; swap; (· iexact H1); ipureintro; rfl
  isplitl [H2]
  · iexists _; isplitr; swap; (· iexact H2); ipureintro; rfl
  isplitl [H3]
  · iexists _; isplitr; swap; (· iexact H3); ipureintro; rfl
  isplitl [H4]
  · iexists _; isplitr; swap; (· iexact H4); ipureintro; rfl
  rw [owns_pt c M5 h5]; iexists _; isplitr; swap; (· iexact H5); ipureintro; unfold k0_run.sl.H5_1; rw [View.read_writes_full, View.readAt_full, View.readAt_full, View.readAt_full, View.readAt_full]

/-- The second kernel's body on whole buffers: besides the logits it leaves `k2_pay7` and `k2_pay8` of them in the buffers of the two results. -/
theorem k2_run (c : Dev nD) (i : grid2.Coords) (M1 : Memref sig .tc .vmem S2048x2048 .f32) (h1 : M1.IsWhole)
    (M2 : Memref sig .tc .vmem S1x2048 .f32) (h2 : M2.IsWhole)
    (M3 : Memref sig .tc .vmem S1x2048 .f32) (h3 : M3.IsWhole)
    (M4 : Memref sig .tc .vmem S2048x64 .f32) (h4 : M4.IsWhole)
    (M5 : Memref sig .tc .vmem S2048x64 .f32) (h5 : M5.IsWhole)
    (M6 : Memref sig .tc .vmem S2048x2 .f32) (h6 : M6.IsWhole)
    (M7 : Memref sig .tc .vmem S2048x2 .i32) (h7 : M7.IsWhole)
    (x1 : Vec F S2048x2048 .f32)
    (x2 : Vec F S1x2048 .f32)
    (x3 : Vec F S1x2048 .f32)
    (x4 : Vec F S2048x64 .f32)
    (x5 : Vec F S2048x64 .f32)
    (x6 : Vec F S2048x2 .f32)
    (x7 : Vec F S2048x2 .i32) (Q : PUnit → sProp 𝕄) :
    iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7
      ∗ (((owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare (k2_pay1 x1 x2 x3 x4) ∗ owns (c : Thread nD τ) M6 fullShare (k2_pay7 (k2_pay1 x1 x2 x3 x4)) ∗ owns (c : Thread nD τ) M7 fullShare (k2_pay8 (k2_pay1 x1 x2 x3 x4)) : sProp 𝕄)) -∗ Q ⟨⟩))
    ⊢ wp frame (wpE (defs₀ (F := F)) Variants.none c none) Set.univ (cc2__tc_full_kernel i M1 h1 M2 h2 M3 h3 M4 h4 M5 h5 M6 h6 M7 h7) Q := by
  rw [cc2__tc_full_kernel_eq_skeleton]
  unfold cc2__tc_full_kernel_skel
  rw [k2_part1_eq_skeleton, k2_part2_eq_skeleton]
  unfold k2_part1_skel k2_part2_skel
  rw [owns_pt c _ h1, owns_pt c _ h2, owns_pt c _ h3, owns_pt c _ h4, owns_pt c _ h5, owns_pt c _ h6, owns_pt c _ h7]
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, Hk⟩
  subst e1 e2 e3 e4 e5 e6 e7
  sl_exec!
  sl_step
  iapply Hk
  isplitl [H1]
  · iexists _; isplitr; swap; (· iexact H1); ipureintro; rfl
  isplitl [H2]
  · iexists _; isplitr; swap; (· iexact H2); ipureintro; rfl
  isplitl [H3]
  · iexists _; isplitr; swap; (· iexact H3); ipureintro; rfl
  isplitl [H4]
  · iexists _; isplitr; swap; (· iexact H4); ipureintro; rfl
  isplitl [H5]
  · rw [owns_pt c M5 h5]; iexists _; isplitr; swap; (· iexact H5); ipureintro; unfold k2_run.sl.H5_1; rw [View.read_writes_full, View.readAt_full, View.readAt_full, View.readAt_full, View.readAt_full]
  isplitl [H6]
  · rw [owns_pt c M6 h6]; iexists _; isplitr; swap; (· iexact H6); ipureintro; unfold k2_run.sl.H6_1; rw [View.read_writes_full, View.readAt_full, View.readAt_full, View.readAt_full, View.readAt_full]
  rw [owns_pt c M7 h7]; iexists _; isplitr; swap; (· iexact H7); ipureintro; unfold k2_run.sl.H7_1; rw [View.read_writes_full, View.readAt_full, View.readAt_full, View.readAt_full, View.readAt_full]

end Cert.Proof.Run

end
-- ==== Proof.TcRegion.lean ====
/-
  The two TensorCore kernel regions, entered from any valuation of the HBM buffers: what each point's body leaves, and the region as a segment that keeps the core's `owes` and its recorded waits' bound.
-/
module

public import proofs.«01_k».proof.Proof.TcBody
public import Idealize.ShloMosaic.Lib.Pipeline.RegionsLoop
public import Idealize.ShloMosaic.Lib.Pipeline.FrameBody
public import Idealize.ShloMosaic.Lib.Pipeline.Frame

@[expose] public section

noncomputable section

namespace Cert.Proof.Run

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The contents of the TensorCore's buffers, on every device. -/
abbrev Vals (F : FTy → Type) : Type := (c : Dev nD) → (b : Ref sig .tc) → Buf (Elt F) ((c : Thread nD τ).loc b)

variable (W : Vals F) (n : ℕ)

/-- The waits a TensorCore may have recorded before call `n`. -/
abbrev waitsBelow (c : Dev nD) (n : ℕ) : Set (SemLoc sig × HIx 1) := {p | (K (F := F)).lev ((c : Thread nD τ), p.1) p.2 ≤ 8 * n}

/-! ## The first kernel -/

/-- Window `w`'s block at point `t` of the first kernel, read off the entry contents. -/
abbrev blk0 (c : Dev nD) (w : Fin 5) (t : Fin cfg0.N) : ((cfg0.win w).xblock (cfg0.grid.coords t)).Idx → Elt F (cfg0.win w).elt :=
  ((cfg0.win w).blk t).view.read (Elt F) (W c (Pipeline.arrRef spec0 w))

/-- The logits the first kernel leaves. -/
abbrev out0 (c : Dev nD) (t : Fin cfg0.N) : Vec F S2048x64 .f32 := k0_pay1 (blk0 W c 0 t) (blk0 W c 1 t) (blk0 W c 2 t) (blk0 W c 3 t)

def dat0 (c : Dev nD) : Dat τ (Elt F) (HIx 1) ℕ UU ℕ cfg0 c where
  A w := W c (Pipeline.arrRef spec0 w)
  after w t := match w with
    | ⟨0, _⟩ => blk0 W c 0 t
    | ⟨1, _⟩ => blk0 W c 1 t
    | ⟨2, _⟩ => blk0 W c 2 t
    | ⟨3, _⟩ => blk0 W c 3 t
    | ⟨4, _⟩ => out0 W c t
  Φ _ := Pipeline.scopedRest (Ix := HIx 1) (Name := ℕ) (U := UU) (Lvl := ℕ) (Val := Elt F) spec0 c
  q _ := fullShare
  owed _ := (K (F := F)).Otc c n
  recorded _ := waitsBelow (F := F) c n

theorem before0_0 (c : Dev nD) (t : Fin cfg0.N) (d) : (dat0 W n c).before 0 t d = blk0 W c 0 t :=
  (dat0 W n c).before_in_eq_fetched 0 rfl (fun _ => rfl) (fun _ _ _ => rfl) (fun _ => rfl) t d
theorem before0_1 (c : Dev nD) (t : Fin cfg0.N) (d) : (dat0 W n c).before 1 t d = blk0 W c 1 t :=
  (dat0 W n c).before_in_eq_fetched 1 rfl (fun _ => rfl) (fun _ _ _ => rfl) (fun _ => rfl) t d
theorem before0_2 (c : Dev nD) (t : Fin cfg0.N) (d) : (dat0 W n c).before 2 t d = blk0 W c 2 t :=
  (dat0 W n c).before_in_eq_fetched 2 rfl (fun _ => rfl) (fun _ _ _ => rfl) (fun _ => rfl) t d
theorem before0_3 (c : Dev nD) (t : Fin cfg0.N) (d) : (dat0 W n c).before 3 t d = blk0 W c 3 t :=
  (dat0 W n c).before_in_eq_fetched 3 rfl (fun _ => rfl) (fun _ _ _ => rfl) (fun _ => rfl) t d

theorem body0 (c : Dev nD) : BodyObligation (dat0 W n c) (defs₀ (F := F)) 𝒱₀ none Set.univ := fun t => by
  rw [bigSep_W0, bigSep_W0]
  simp only [before0_0, before0_1, before0_2, before0_3]
  rw [show (dat0 W n c).Φ t.succ = (dat0 W n c).Φ t.castSucc from rfl,
    show (dat0 W n c).owesAt none t.succ = (dat0 W n c).owesAt none t.castSucc from rfl]
  iintro ⟨HΦ, Howes, ⟨%d0, H0⟩, ⟨%d1, H1⟩, ⟨%d2, H2⟩, ⟨%d3, H3⟩, ⟨%d4, H4⟩⟩
  iapply (k0_run c (grid0.coords t) _ _ _ _ _ _ _ _ _ _ (blk0 W c 0 t) (blk0 W c 1 t) (blk0 W c 2 t) (blk0 W c 3 t) _ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Howes]; · iexact Howes
  isplitl [H0]; · iexact H0
  isplitl [H1]; · iexact H1
  isplitl [H2]; · iexact H2
  isplitl [H3]; · iexact H3
  iexact H4

/-! ## The second kernel -/

/-- Window `w`'s block at point `t` of the second kernel, read off the entry contents. -/
abbrev blk2 (c : Dev nD) (w : Fin 7) (t : Fin cfg2.N) : ((cfg2.win w).xblock (cfg2.grid.coords t)).Idx → Elt F (cfg2.win w).elt :=
  ((cfg2.win w).blk t).view.read (Elt F) (W c (Pipeline.arrRef spec2 w))

/-- The logits the second kernel leaves at a point. -/
abbrev out2 (c : Dev nD) (t : Fin cfg2.N) : Vec F S2048x64 .f32 := k2_pay1 (blk2 W c 0 t) (blk2 W c 1 t) (blk2 W c 2 t) (blk2 W c 3 t)

def dat2 (c : Dev nD) : Dat τ (Elt F) (HIx 1) ℕ UU ℕ cfg2 c where
  A w := W c (Pipeline.arrRef spec2 w)
  after w t := match w with
    | ⟨0, _⟩ => blk2 W c 0 t
    | ⟨1, _⟩ => blk2 W c 1 t
    | ⟨2, _⟩ => blk2 W c 2 t
    | ⟨3, _⟩ => blk2 W c 3 t
    | ⟨4, _⟩ => out2 W c t
    | ⟨5, _⟩ => k2_pay7 (out2 W c t)
    | ⟨6, _⟩ => k2_pay8 (out2 W c t)
  Φ _ := Pipeline.scopedRest (Ix := HIx 1) (Name := ℕ) (U := UU) (Lvl := ℕ) (Val := Elt F) spec2 c
  q _ := fullShare
  owed _ := (K (F := F)).Otc c n
  recorded _ := waitsBelow (F := F) c n

theorem before2_0 (c : Dev nD) (t : Fin cfg2.N) (d) : (dat2 W n c).before 0 t d = blk2 W c 0 t :=
  (dat2 W n c).before_in_eq_fetched 0 rfl (fun _ => rfl) (fun _ _ _ => rfl) (fun _ => rfl) t d
theorem before2_1 (c : Dev nD) (t : Fin cfg2.N) (d) : (dat2 W n c).before 1 t d = blk2 W c 1 t :=
  (dat2 W n c).before_in_eq_fetched 1 rfl (fun _ => rfl) (fun _ _ _ => rfl) (fun _ => rfl) t d
theorem before2_2 (c : Dev nD) (t : Fin cfg2.N) (d) : (dat2 W n c).before 2 t d = blk2 W c 2 t :=
  (dat2 W n c).before_in_eq_fetched 2 rfl (fun _ => rfl) (fun _ _ _ => rfl) (fun _ => rfl) t d
theorem before2_3 (c : Dev nD) (t : Fin cfg2.N) (d) : (dat2 W n c).before 3 t d = blk2 W c 3 t :=
  (dat2 W n c).before_in_eq_fetched 3 rfl (fun _ => rfl) (fun _ _ _ => rfl) (fun _ => rfl) t d

theorem body2 (c : Dev nD) : BodyObligation (dat2 W n c) (defs₀ (F := F)) 𝒱₀ none Set.univ := fun t => by
  rw [bigSep_W2, bigSep_W2]
  simp only [before2_0, before2_1, before2_2, before2_3]
  rw [show (dat2 W n c).Φ t.succ = (dat2 W n c).Φ t.castSucc from rfl,
    show (dat2 W n c).owesAt none t.succ = (dat2 W n c).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩⟩
  iapply (k2_run c (grid2.coords t) _ _ _ _ _ _ _ _ _ _ _ _ _ _ (blk2 W c 0 t) (blk2 W c 1 t) (blk2 W c 2 t) (blk2 W c 3 t) _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  iexact H6

/-! ## The regions over the thread's state -/

abbrev adm : (p : Fin 2) → (pcfgs (F := F) p).Adm := fun p => (cfgs p).toPCfg_adm

/-- Both regions' proof data, the first's from the contents `W` and the second's from `W'`. -/
def pdats (W W' : Vals F) : (p : Fin 2) → (c : Dev nD) → Dat τ (Elt F) (HIx 1) ℕ UU ℕ (Pipeline.pin (pcfgs (F := F)) adm p) c
  | ⟨0, _⟩ => fun c => dat0 W 0 c
  | ⟨1, _⟩ => fun c => dat2 W' 1 c

/-- The core's `owes` before call `n`: what it still owes, and its recorded waits within the bound. -/
abbrev owesTc (c : Dev nD) (n : ℕ) : sProp 𝕄 :=
  iprop(∃ U, ⌜(K (F := F)).WBelow (c : Thread nD τ) U (8 * n)⌝ ∗ owes (c : Thread nD τ) ((K (F := F)).Otc c n) U)

-- `iapply` of a lemma stated over `pin pcs a p` at the pinned configuration unifies only when unification may unfold plain definitions in a metavariable's type
set_option backward.isDefEq.respectTransparency.types false in
/-- The first region, from the HBM buffers at `W` to them at `Wp`: the logits' array at what the region computes, every other as it was. -/
def reg0 (W W' Wp : Vals F) (hout : ∀ c, Wp c main_v4 = (dat0 W 0 c).arrAt 4 cfg0.N) (hne : ∀ c (b : Ref sig .tc), b ≠ main_v4 → Wp c b = W c b) :
    Pipeline.RegionSeg (pcfgs (F := F)) adm (pdats W W') none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body0 W 0 c).loose
  hwaits c := Pipeline.cellsWaits_of_cut _ (pdats W W') none 0 c (lev := (K (F := F)).lev) 0 ((K (F := F)).Otc c 0) (fun _ => rfl)
    (fun _ _ => Finset.mem_univ _) (fun _ _ => le_refl _) fun g i h => ⟨Finset.mem_univ _, by have := (K (F := F)).lev_of_Otc_pos h; omega⟩
  pre c := iprop(unscopedBufs c (W c) ∗ owesTc c 0)
  post c := iprop(unscopedBufs c (Wp c) ∗ owesTc c 0)
  X _ := BI.emp
  Y _ := BI.emp
  Z c := Pipeline.unscopedRest (Ix := HIx 1) (Name := ℕ) (U := UU) (Lvl := ℕ) spec0 c (W c)
  hentry c := by
    rw [Pipeline.ownSems0_none]
    have hsplit := Pipeline.arrays_of_unscopedBufs (p := 0) (pcfgs (F := F)) adm (pdats W W') launch0.win launch0.arr_whole c
      ((pdats W W' 0 c).share_full fun _ => rfl) (W c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%U, %hU, HO⟩; iexists U; isplitr; · ipureintro; exact fun p hp => Or.inl (hU p hp)
      iexact HO
    isplitr; · iempintro
    iexact Hrest
  hin c := by
    rw [show (pdats W W' 0 c).Φ 0 = Pipeline.scopedRest spec0 c from rfl]
    iintro ⟨-, -, Hr⟩; iexact Hr
  hout c := by
    rw [Pipeline.ownSems0_none, show (pdats W W' 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats W W') ((pdats W W' 0 c).share_full fun _ => rfl) (W c) (Wp c) ((pdats W W' 0 c).arrAt · cfg0.N)
      (fun w => by
        fin_cases w
        · exact ((pdats W W' 0 c).arrAt_in 0 rfl _).trans (hne c main_v0 (by decide)).symm
        · exact ((pdats W W' 0 c).arrAt_in 1 rfl _).trans (hne c main_v1 (by decide)).symm
        · exact ((pdats W W' 0 c).arrAt_in 2 rfl _).trans (hne c main_v2 (by decide)).symm
        · exact ((pdats W W' 0 c).arrAt_in 3 rfl _).trans (hne c main_v3 (by decide)).symm
        · exact (hout c).symm)
      (fun b hb => hne c b fun h => hb (h ▸ Finset.mem_image.mpr ⟨4, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%U, %hU, HO⟩; iexists U; isplitr
    · ipureintro; intro p hp
      rcases hU hp with h | ⟨w, s, rfl⟩
      · exact h
      · exact Nat.zero_le _
    iexact HO

set_option backward.isDefEq.respectTransparency.types false in
/-- The second region, from the HBM buffers at `W'` to them at `Wp`: its three results' arrays at what the region computes, every other as it was. -/
def reg2 (W W' Wp : Vals F) (hout4 : ∀ c, Wp c main_v7_0 = (dat2 W' 1 c).arrAt 4 cfg2.N) (hout5 : ∀ c, Wp c main_v7_1 = (dat2 W' 1 c).arrAt 5 cfg2.N)
    (hout6 : ∀ c, Wp c main_v7_2 = (dat2 W' 1 c).arrAt 6 cfg2.N)
    (hne : ∀ c (b : Ref sig .tc), b ≠ main_v7_0 → b ≠ main_v7_1 → b ≠ main_v7_2 → Wp c b = W' c b) :
    Pipeline.RegionSeg (pcfgs (F := F)) adm (pdats W W') none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body2 W' 1 c).loose
  hwaits c := Pipeline.cellsWaits_of_cut _ (pdats W W') none 1 c (lev := (K (F := F)).lev) 0 ((K (F := F)).Otc c 1) (fun _ => rfl)
    (fun _ _ => Finset.mem_univ _) (fun _ _ => le_refl _) fun g i h => ⟨Finset.mem_univ _, by have := (K (F := F)).lev_of_Otc_pos h; omega⟩
  pre c := iprop(unscopedBufs c (W' c) ∗ owesTc c 1)
  post c := iprop(unscopedBufs c (Wp c) ∗ owesTc c 1)
  X _ := BI.emp
  Y _ := BI.emp
  Z c := Pipeline.unscopedRest (Ix := HIx 1) (Name := ℕ) (U := UU) (Lvl := ℕ) spec2 c (W' c)
  hentry c := by
    rw [Pipeline.ownSems0_none]
    have hsplit := Pipeline.arrays_of_unscopedBufs (p := 1) (pcfgs (F := F)) adm (pdats W W') launch2.win launch2.arr_whole c
      ((pdats W W' 1 c).share_full fun _ => rfl) (W' c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%U, %hU, HO⟩; iexists U; isplitr; · ipureintro; exact fun p hp => Or.inl (hU p hp)
      iexact HO
    isplitr; · iempintro
    iexact Hrest
  hin c := by
    rw [show (pdats W W' 1 c).Φ 0 = Pipeline.scopedRest spec2 c from rfl]
    iintro ⟨-, -, Hr⟩; iexact Hr
  hout c := by
    rw [Pipeline.ownSems0_none, show (pdats W W' 1 c).Φ (Fin.last _) = Pipeline.scopedRest spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch2.win launch2.arr_whole c
      (pdats W W') ((pdats W W' 1 c).share_full fun _ => rfl) (W' c) (Wp c) ((pdats W W' 1 c).arrAt · cfg2.N)
      (fun w => by
        fin_cases w
        · exact ((pdats W W' 1 c).arrAt_in 0 rfl _).trans (hne c main_v0 (by decide) (by decide) (by decide)).symm
        · exact ((pdats W W' 1 c).arrAt_in 1 rfl _).trans (hne c main_v1 (by decide) (by decide) (by decide)).symm
        · exact ((pdats W W' 1 c).arrAt_in 2 rfl _).trans (hne c main_v2 (by decide) (by decide) (by decide)).symm
        · exact ((pdats W W' 1 c).arrAt_in 3 rfl _).trans (hne c main_v3 (by decide) (by decide) (by decide)).symm
        · exact (hout4 c).symm
        · exact (hout5 c).symm
        · exact (hout6 c).symm)
      (fun b hb => hne c b (fun h => hb (h ▸ Finset.mem_image.mpr ⟨4, Finset.mem_univ _, rfl⟩)) (fun h => hb (h ▸ Finset.mem_image.mpr ⟨5, Finset.mem_univ _, rfl⟩))
        (fun h => hb (h ▸ Finset.mem_image.mpr ⟨6, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%U, %hU, HO⟩; iexists U; isplitr
    · ipureintro; intro p hp
      rcases hU hp with h | ⟨w, s, rfl⟩
      · exact h
      · exact Nat.zero_le _
    iexact HO

end Cert.Proof.Run

end
-- ==== Proof.Main.lean ====
/-
  The whole program's run: the host operations, the two TensorCore kernels and the SparseCore call on the TensorCore's thread, and the launch.
-/
module

public import proofs.«01_k».proof.Proof.ScCall
public import proofs.«01_k».proof.Proof.TcRegion

@[expose] public section

noncomputable section

namespace Cert.Proof.Run

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The host operations -/

abbrev op1 : HloOp τ sig (Elt F) := StableHlo.reshape main_arg0 main_v0 (rfl : (.f32 : EltTy) = .f32) shapeCasts_S4x4096x2048_S16384x2048
abbrev op2 : HloOp τ sig (Elt F) := StableHlo.reshape main_arg1 main_v1 (rfl : (.f32 : EltTy) = .f32) shapeCasts_S2048_S1x2048
abbrev op3 : HloOp τ sig (Elt F) := StableHlo.reshape main_arg2 main_v2 (rfl : (.f32 : EltTy) = .f32) shapeCasts_S2048_S1x2048
abbrev op4 : HloOp τ sig (Elt F) := StableHlo.unary main_arg3 main_v3 ((transpose S2048x64 [1, 0] · transposes_S64x2048_S2048x64_1_0) : (⟨S64x2048, .f32⟩ : BufTy).Contents (Elt F) → (⟨S2048x64, .f32⟩ : BufTy).Contents (Elt F))
abbrev op5 : HloOp τ sig (Elt F) := StableHlo.reshape main_v4 main_v5 (rfl : (.f32 : EltTy) = .f32) shapeCasts_S2048x64_S131072
abbrev op6 : HloOp τ sig (Elt F) := StableHlo.reshape main_v6_0 main_v8 (rfl : (.f32 : EltTy) = .f32) shapeCasts_S4096_S2048x2
abbrev op7 : HloOp τ sig (Elt F) := StableHlo.binary main_v8 main_v7_1 main_v9 ((fun a b => concatenate S16384x2 0 [⟨S2048x2, a⟩, ⟨S14336x2, b⟩] concatenates_S2048x2_S14336x2_S16384x2_d0) : (⟨S2048x2, .f32⟩ : BufTy).Contents (Elt F) → (⟨S14336x2, .f32⟩ : BufTy).Contents (Elt F) → (⟨S16384x2, .f32⟩ : BufTy).Contents (Elt F))
abbrev op8 : HloOp τ sig (Elt F) := StableHlo.reshape main_v6_1 main_v10 (rfl : (.i32 : EltTy) = .i32) shapeCasts_S4096_S2048x2
abbrev op9 : HloOp τ sig (Elt F) := StableHlo.binary main_v10 main_v7_2 main_v11 ((fun a b => concatenate S16384x2 0 [⟨S2048x2, a⟩, ⟨S14336x2, b⟩] concatenates_S2048x2_S14336x2_S16384x2_d0) : (⟨S2048x2, .i32⟩ : BufTy).Contents (Elt F) → (⟨S14336x2, .i32⟩ : BufTy).Contents (Elt F) → (⟨S16384x2, .i32⟩ : BufTy).Contents (Elt F))
abbrev op10 : HloOp τ sig (Elt F) := StableHlo.binary main_v4 main_v7_0 main_v12 ((fun a b => concatenate S16384x64 0 [⟨S2048x64, a⟩, ⟨S14336x64, b⟩] concatenates_S2048x64_S14336x64_S16384x64_d0) : (⟨S2048x64, .f32⟩ : BufTy).Contents (Elt F) → (⟨S14336x64, .f32⟩ : BufTy).Contents (Elt F) → (⟨S16384x64, .f32⟩ : BufTy).Contents (Elt F))

theorem sub_op1 : (op1 (F := F)).bufs ⊆ Pipeline.ucRefs τ sig := Pipeline.sub_ucRefs _ (by simp only [StableHlo.reshape_bufs_sub, StableHlo.unary_bufs_sub, StableHlo.binary_bufs_sub])
theorem sub_op2 : (op2 (F := F)).bufs ⊆ Pipeline.ucRefs τ sig := Pipeline.sub_ucRefs _ (by simp only [StableHlo.reshape_bufs_sub, StableHlo.unary_bufs_sub, StableHlo.binary_bufs_sub])
theorem sub_op3 : (op3 (F := F)).bufs ⊆ Pipeline.ucRefs τ sig := Pipeline.sub_ucRefs _ (by simp only [StableHlo.reshape_bufs_sub, StableHlo.unary_bufs_sub, StableHlo.binary_bufs_sub])
theorem sub_op4 : (op4 (F := F)).bufs ⊆ Pipeline.ucRefs τ sig := Pipeline.sub_ucRefs _ (by simp only [StableHlo.reshape_bufs_sub, StableHlo.unary_bufs_sub, StableHlo.binary_bufs_sub])
theorem sub_op5 : (op5 (F := F)).bufs ⊆ Pipeline.ucRefs τ sig := Pipeline.sub_ucRefs _ (by simp only [StableHlo.reshape_bufs_sub, StableHlo.unary_bufs_sub, StableHlo.binary_bufs_sub])
theorem sub_op6 : (op6 (F := F)).bufs ⊆ Pipeline.ucRefs τ sig := Pipeline.sub_ucRefs _ (by simp only [StableHlo.reshape_bufs_sub, StableHlo.unary_bufs_sub, StableHlo.binary_bufs_sub])
theorem sub_op7 : (op7 (F := F)).bufs ⊆ Pipeline.ucRefs τ sig := Pipeline.sub_ucRefs _ (by simp only [StableHlo.reshape_bufs_sub, StableHlo.unary_bufs_sub, StableHlo.binary_bufs_sub])
theorem sub_op8 : (op8 (F := F)).bufs ⊆ Pipeline.ucRefs τ sig := Pipeline.sub_ucRefs _ (by simp only [StableHlo.reshape_bufs_sub, StableHlo.unary_bufs_sub, StableHlo.binary_bufs_sub])
theorem sub_op9 : (op9 (F := F)).bufs ⊆ Pipeline.ucRefs τ sig := Pipeline.sub_ucRefs _ (by simp only [StableHlo.reshape_bufs_sub, StableHlo.unary_bufs_sub, StableHlo.binary_bufs_sub])
theorem sub_op10 : (op10 (F := F)).bufs ⊆ Pipeline.ucRefs τ sig := Pipeline.sub_ucRefs _ (by simp only [StableHlo.reshape_bufs_sub, StableHlo.unary_bufs_sub, StableHlo.binary_bufs_sub])

/-! ## The buffers along the program -/

/-- The device's buffer a TensorCore reference names. -/
abbrev dr (b : Ref sig .tc) : DevRef τ sig := Proc.devRef .tc b

/-- A valuation of the device's buffers, read at the TensorCore's references. -/
abbrev vals (V : Dev nD → Valuation τ sig (Elt F)) : Vals F := fun c b => V c (dr b)

/-- At the launch, -/
def V0 (d : Dev nD) : Valuation τ sig (Elt F) := fun b => m (d, b)
/-- after the four operations before the first kernel, -/
def V4 (d : Dev nD) : Valuation τ sig (Elt F) := (op4 (F := F)).result ((op3 (F := F)).result ((op2 (F := F)).result ((op1 (F := F)).result (V0 m d))))
/-- after the first kernel, -/
def V5 (d : Dev nD) : Valuation τ sig (Elt F) := Function.update (V4 m d) (dr main_v4) ((dat0 (vals (V4 m)) 0 d).arrAt 4 cfg0.N)
/-- after its logits are laid out in a row, -/
def V6 (d : Dev nD) : Valuation τ sig (Elt F) := (op5 (F := F)).result (V5 m d)
/-- after the SparseCore call, -/
def V7 (d : Dev nD) : Valuation τ sig (Elt F) :=
  Function.update (Function.update (V6 m d) (dr main_v6_0) (scProbs (V6 m d (dr main_v5)))) (dr main_v6_1) (scPicks (V6 m d (dr main_v5)))
/-- after the second kernel, -/
def V8 (d : Dev nD) : Valuation τ sig (Elt F) :=
  Function.update (Function.update (Function.update (V7 m d) (dr main_v7_0) ((dat2 (vals (V7 m)) 1 d).arrAt 4 cfg2.N))
    (dr main_v7_1) ((dat2 (vals (V7 m)) 1 d).arrAt 5 cfg2.N)) (dr main_v7_2) ((dat2 (vals (V7 m)) 1 d).arrAt 6 cfg2.N)
/-- at the end. -/
def V9 (d : Dev nD) : Valuation τ sig (Elt F) :=
  (op10 (F := F)).result ((op9 (F := F)).result ((op8 (F := F)).result ((op7 (F := F)).result ((op6 (F := F)).result (V8 m d)))))

theorem dr_ne {a b : Ref sig .tc} (h : a ≠ b) : dr a ≠ dr b := fun e => h (Proc.devRef_injective _ e)

/-! ## The kernels' regions and the call, at these buffers -/

def regA : Pipeline.RegionSeg (pcfgs (F := F)) adm (pdats (vals (V4 m)) (vals (V7 m))) none defs₀ 𝒱₀ (K (F := F)).L (K (F := F)).lev 0 :=
  reg0 (vals (V4 m)) (vals (V7 m)) (vals (V5 m)) (fun c => Function.update_self _ _ _) (fun c b h => Function.update_of_ne (dr_ne h) _ _)

def regB : Pipeline.RegionSeg (pcfgs (F := F)) adm (pdats (vals (V4 m)) (vals (V7 m))) none defs₀ 𝒱₀ (K (F := F)).L (K (F := F)).lev 1 :=
  reg2 (vals (V4 m)) (vals (V7 m)) (vals (V8 m))
    (fun c => (Function.update_of_ne (dr_ne (show main_v7_0 ≠ main_v7_2 by decide)) _ _).trans
      ((Function.update_of_ne (dr_ne (show main_v7_0 ≠ main_v7_1 by decide)) _ _).trans (Function.update_self _ _ _)))
    (fun c => (Function.update_of_ne (dr_ne (show main_v7_1 ≠ main_v7_2 by decide)) _ _).trans (Function.update_self _ _ _))
    (fun c => Function.update_self _ _ _)
    (fun c b h0 h1 h2 => (Function.update_of_ne (dr_ne h2) _ _).trans
      ((Function.update_of_ne (dr_ne h1) _ _).trans (Function.update_of_ne (dr_ne h0) _ _)))

theorem regA_pre (d : Dev nD) : (regA m).pre d = (iprop(unscopedBufs d (fun b => V4 m d (dr b)) ∗ owesTc d 0) : sProp 𝕄) := rfl
theorem regA_post (d : Dev nD) : (regA m).post d = (iprop(unscopedBufs d (fun b => V5 m d (dr b)) ∗ owesTc d 0) : sProp 𝕄) := rfl

theorem regB_pre (d : Dev nD) : (regB m).pre d = (iprop(unscopedBufs d (fun b => V7 m d (dr b)) ∗ owesTc d 1) : sProp 𝕄) := rfl
theorem regB_post (d : Dev nD) : (regB m).post d = (iprop(unscopedBufs d (fun b => V8 m d (dr b)) ∗ owesTc d 1) : sProp 𝕄) := rfl

/-- What the call moves. -/
abbrev PP : (K (F := F)).Pay (nD := nD) (Val := Elt F) (Name := ℕ) (U := UU) :=
  P (fun d => V6 m d (dr main_v5)) (fun d => V6 m d (dr main_v6_0)) (fun d => V6 m d (dr main_v6_1))

abbrev S3 : Finset (DevRef τ sig) := {dr main_v5, dr main_v6_0, dr main_v6_1}

theorem S3_sub : S3 ⊆ Pipeline.ucRefs τ sig := by decide

omit [FloatOps F] in
theorem held_S3 (d : Dev nD) (V : Valuation τ sig (Elt F)) :
    (StableHlo.held (T d) S3 V : sProp 𝕄) = allPts d (V (dr main_v5)) (V (dr main_v6_0)) (V (dr main_v6_1)) := by
  unfold StableHlo.held S3
  rw [SparseCore.bigSep_insert' (by decide), SparseCore.bigSep_insert' (by decide), bigSep_singleton]

/-- Before the call the three arrays split off, -/
theorem held_V6 (d : Dev nD) : (StableHlo.held (T d) (Pipeline.ucRefs τ sig) (V6 m d) : sProp 𝕄)
    = iprop(allPts d (V6 m d (dr main_v5)) (V6 m d (dr main_v6_0)) (V6 m d (dr main_v6_1)) ∗ StableHlo.held (T d) (Pipeline.ucRefs τ sig \ S3) (V6 m d)) := by
  rw [StableHlo.held_sub_split (T d) S3_sub, held_S3]

/-- and after it they join again. -/
theorem held_V7 (d : Dev nD) : (StableHlo.held (T d) (Pipeline.ucRefs τ sig) (V7 m d) : sProp 𝕄)
    = iprop(allPts d (V6 m d (dr main_v5)) (scProbs (V6 m d (dr main_v5))) (scPicks (V6 m d (dr main_v5)))
        ∗ StableHlo.held (T d) (Pipeline.ucRefs τ sig \ S3) (V6 m d)) := by
  have e5 : V7 m d (dr main_v5) = V6 m d (dr main_v5) := by
    unfold V7; rw [Function.update_of_ne (dr_ne (by decide)), Function.update_of_ne (dr_ne (by decide))]
  have e6 : V7 m d (dr main_v6_0) = scProbs (V6 m d (dr main_v5)) := by
    unfold V7; rw [Function.update_of_ne (dr_ne (by decide)), Function.update_self]
  have e7 : V7 m d (dr main_v6_1) = scPicks (V6 m d (dr main_v5)) := by
    unfold V7; rw [Function.update_self]
  have er : (StableHlo.held (T d) (Pipeline.ucRefs τ sig \ S3) (V7 m d) : sProp 𝕄) = StableHlo.held (T d) (Pipeline.ucRefs τ sig \ S3) (V6 m d) := by
    refine StableHlo.held_congr _ fun b hb => ?_
    have hb' := (Finset.mem_sdiff.mp hb).2
    unfold V7
    rw [Function.update_of_ne (show b ≠ dr main_v6_1 by rintro rfl; exact hb' (by decide)),
      Function.update_of_ne (show b ≠ dr main_v6_0 by rintro rfl; exact hb' (by decide))]
  rw [StableHlo.held_sub_split (T d) S3_sub, held_S3, e5, e6, e7, er]

/-- A kernel's entry in the program with the SparseCore calls is the same entry in the pipelines' program. -/
theorem call_entry (p : Fin 2) (d : Dev nD) (Φ : PUnit → sProp 𝕄) :
    wp frame (wpE (D (F := F)) 𝒱 (T d) none) Set.univ (.op (.customCall (Pipeline.entry p) ()) .ret) Φ
      ⊢ wp frame (wpE ((K (F := F)).defs (D (F := F))) 𝒱 (T d) none) Set.univ (Prog.lift (.customCall (SparseCore.inner (Pipeline.entry p)) ())) Φ :=
  (K (F := F)).wp_liftProg (D (F := F)) 𝒱 (T d) Set.univ none (.op (.customCall (Pipeline.entry p) ()) .ret) Φ

/-- The launch's ghost state of both pipelines, on one device. -/
abbrev GG (d : Dev nD) : sProp 𝕄 :=
  iprop((Pipeline.cellsGhost (Pipeline.pin (pcfgs (F := F)) adm) EP 0 d ∗ Pipeline.toksInit (Pipeline.pin (pcfgs (F := F)) adm) EP 0 d)
    ∗ (Pipeline.cellsGhost (Pipeline.pin (pcfgs (F := F)) adm) EP 1 d ∗ Pipeline.toksInit (Pipeline.pin (pcfgs (F := F)) adm) EP 1 d))

/-- The first kernel's call, from the buffers at `V4` to the buffers at `V5`. -/
theorem call_A (κ : GSem nD τ sig → ℕ) (d : Dev nD) (Φ : PUnit → sProp 𝕄) :
    iprop((K (F := F)).ctx EH (PP m) κ ∗ (K (F := F)).tcSt EH d 0 ∗ boundary (T d) ∗ StableHlo.held (T d) (Pipeline.ucRefs τ sig) (V4 m d)
      ∗ (Pipeline.cellsGhost (Pipeline.pin (pcfgs (F := F)) adm) EP 0 d ∗ Pipeline.toksInit (Pipeline.pin (pcfgs (F := F)) adm) EP 0 d)
      ∗ (((K (F := F)).tcSt EH d 0 ∗ boundary (T d) ∗ StableHlo.held (T d) (Pipeline.ucRefs τ sig) (V5 m d)) -∗ Φ ⟨⟩))
      ⊢ wp frame (wpE ((K (F := F)).defs (D (F := F))) 𝒱 (T d) none) Set.univ (Prog.lift (.customCall (SparseCore.inner (Pipeline.entry 0)) ())) Φ := by
  refine BIBase.Entails.trans ?_ (call_entry 0 d Φ)
  rw [← Pipeline.unscopedBufs_held d (V4 m d), ← Pipeline.unscopedBufs_held d (V5 m d)]
  unfold SparseCore.Cfg.tcSt
  iintro ⟨#Hctx, ⟨Howes, Hst⟩, Hb, Hub, ⟨Hg, Ht⟩, Hk⟩
  ihave #Hlev := ((K (F := F)).ctx_levAts κ) $$ Hctx
  iapply (Pipeline.RegionSeg.wp (pcfgs (F := F)) adm (pdats (vals (V4 m)) (vals (V7 m))) none cellOf_inj EP defs₀ 𝒱₀ _ _ (regA m) d none (fun _ h => nomatch h) (fun _ => .ret ⟨⟩) Φ)
  isplitl [Hst Hk]
  · iintro ⟨Hb, Hpost⟩
    rw [wp_ret]; imodintro
    ihave Hpost := (Entails.of_eq (regA_post m d)) $$ Hpost
    icases Hpost with ⟨Hub, Howes⟩
    iapply Hk
    isplitl [Howes Hst]
    · isplitl [Howes]; · iexact Howes
      iexact Hst
    isplitl [Hb]; · iexact Hb
    iexact Hub
  isplitl [Hb]; · iexact Hb
  isplitl [Hub Howes]
  · rw [regA_pre]
    isplitl [Hub]; · iexact Hub
    iexact Howes
  isplitr; · iexact Hlev
  isplitl [Hg]; · iexact Hg
  iexact Ht

/-- The second kernel's call, from the buffers at `V7` to the buffers at `V8`. -/
theorem call_B (κ : GSem nD τ sig → ℕ) (d : Dev nD) (Φ : PUnit → sProp 𝕄) :
    iprop((K (F := F)).ctx EH (PP m) κ ∗ (K (F := F)).tcSt EH d 1 ∗ boundary (T d) ∗ StableHlo.held (T d) (Pipeline.ucRefs τ sig) (V7 m d)
      ∗ (Pipeline.cellsGhost (Pipeline.pin (pcfgs (F := F)) adm) EP 1 d ∗ Pipeline.toksInit (Pipeline.pin (pcfgs (F := F)) adm) EP 1 d)
      ∗ (((K (F := F)).tcSt EH d 1 ∗ boundary (T d) ∗ StableHlo.held (T d) (Pipeline.ucRefs τ sig) (V8 m d)) -∗ Φ ⟨⟩))
      ⊢ wp frame (wpE ((K (F := F)).defs (D (F := F))) 𝒱 (T d) none) Set.univ (Prog.lift (.customCall (SparseCore.inner (Pipeline.entry 1)) ())) Φ := by
  refine BIBase.Entails.trans ?_ (call_entry 1 d Φ)
  rw [← Pipeline.unscopedBufs_held d (V7 m d), ← Pipeline.unscopedBufs_held d (V8 m d)]
  unfold SparseCore.Cfg.tcSt
  iintro ⟨#Hctx, ⟨Howes, Hst⟩, Hb, Hub, ⟨Hg, Ht⟩, Hk⟩
  ihave #Hlev := ((K (F := F)).ctx_levAts κ) $$ Hctx
  iapply (Pipeline.RegionSeg.wp (pcfgs (F := F)) adm (pdats (vals (V4 m)) (vals (V7 m))) none cellOf_inj EP defs₀ 𝒱₀ _ _ (regB m) d none (fun _ h => nomatch h) (fun _ => .ret ⟨⟩) Φ)
  isplitl [Hst Hk]
  · iintro ⟨Hb, Hpost⟩
    rw [wp_ret]; imodintro
    ihave Hpost := (Entails.of_eq (regB_post m d)) $$ Hpost
    icases Hpost with ⟨Hub, Howes⟩
    iapply Hk
    isplitl [Howes Hst]
    · isplitl [Howes]; · iexact Howes
      iexact Hst
    isplitl [Hb]; · iexact Hb
    iexact Hub
  isplitl [Hb]; · iexact Hb
  isplitl [Hub Howes]
  · rw [regB_pre]
    isplitl [Hub]; · iexact Hub
    iexact Howes
  isplitr; · iexact Hlev
  isplitl [Hg]; · iexact Hg
  iexact Ht

/-- What @main leaves: every buffer of the TensorCore at `V9`. -/
abbrev FIN (d : Dev nD) : sProp 𝕄 := StableHlo.held (T d) (Pipeline.ucRefs τ sig) (V9 m d)

/-- @main on the TensorCore: four operations, the first kernel, an operation, the SparseCore call, the second kernel, five operations. -/
theorem hmain (κ : GSem nD τ sig → ℕ) (d : Dev nD) :
    iprop((K (F := F)).ctx EH (PP m) κ ∗ (K (F := F)).tcSt EH d 0 ∗ (K (F := F)).tcRes m ρ d ∗ GG d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = StableHlo.held (T d) (Pipeline.ucRefs τ sig) (V0 m d) from
    Pipeline.unscopedBufs_held d (V0 m d)]
  simp only [main, wp_bind, wp_pure]
  iintro ⟨#Hctx, Hst, ⟨Hb, Hheld, Hts, -⟩, HG0, HG1⟩
  iapply (StableHlo.wp_hlo_within 𝒱 (SparseCore.T d) none Set.univ (op := op1 (F := F)) (S := Pipeline.ucRefs τ sig) sub_op1 (V := V0 m d)) $$ [Hb Hheld]
  · isplitl [Hb] <;> iassumption
  iintro ⟨Hb, Hheld⟩
  rw [wp_ret]; imodintro
  iapply (StableHlo.wp_hlo_within 𝒱 (SparseCore.T d) none Set.univ (op := op2 (F := F)) (S := Pipeline.ucRefs τ sig) sub_op2 (V := _)) $$ [Hb Hheld]
  · isplitl [Hb] <;> iassumption
  iintro ⟨Hb, Hheld⟩
  rw [wp_ret]; imodintro
  iapply (StableHlo.wp_hlo_within 𝒱 (SparseCore.T d) none Set.univ (op := op3 (F := F)) (S := Pipeline.ucRefs τ sig) sub_op3 (V := _)) $$ [Hb Hheld]
  · isplitl [Hb] <;> iassumption
  iintro ⟨Hb, Hheld⟩
  rw [wp_ret]; imodintro
  iapply (StableHlo.wp_hlo_within 𝒱 (SparseCore.T d) none Set.univ (op := op4 (F := F)) (S := Pipeline.ucRefs τ sig) sub_op4 (V := _)) $$ [Hb Hheld]
  · isplitl [Hb] <;> iassumption
  iintro ⟨Hb, Hheld⟩
  rw [wp_ret]; imodintro
  iapply (call_A m κ d)
  isplitr; · iexact Hctx
  isplitl [Hst]; · iexact Hst
  isplitl [Hb]; · iexact Hb
  isplitl [Hheld]; · iexact Hheld
  isplitl [HG0]; · iexact HG0
  iintro ⟨Hst, Hb, Hheld⟩
  iapply (StableHlo.wp_hlo_within 𝒱 (SparseCore.T d) none Set.univ (op := op5 (F := F)) (S := Pipeline.ucRefs τ sig) sub_op5 (V := V5 m d)) $$ [Hb Hheld]
  · isplitl [Hb] <;> iassumption
  iintro ⟨Hb, Hheld⟩
  rw [wp_ret]; imodintro
  ihave Hh := (Entails.of_eq (show (StableHlo.held (T d) (Pipeline.ucRefs τ sig) ((op5 (F := F)).result (V5 m d)) : sProp 𝕄) = _ from held_V6 m d)) $$ Hheld
  icases Hh with ⟨Harr, Hrest⟩
  iapply ((K (F := F)).wp_run (D (F := F)) 𝒱 (EH := EH) (P := PP m) κ d 0) $$ [Hst Harr Hb Hrest Hts HG1]
  isplitr; · iexact Hctx
  isplitl [Hst]; · iexact Hst
  isplitl [Harr]
  · rw [st0_eq]; iexact Harr
  iintro ⟨Hst, Hdn⟩
  ihave Harr := (Entails.of_eq (dn0_eq _ _ _ d)) $$ Hdn
  iapply (call_B m κ d)
  isplitr; · iexact Hctx
  isplitl [Hst]; · iexact Hst
  isplitl [Hb]; · iexact Hb
  isplitl [Harr Hrest]
  · rw [held_V7]
    isplitl [Harr]; · iexact Harr
    iexact Hrest
  isplitl [HG1]; · iexact HG1
  iintro ⟨Hst, Hb, Hheld⟩
  iapply (StableHlo.wp_hlo_within 𝒱 (SparseCore.T d) none Set.univ (op := op6 (F := F)) (S := Pipeline.ucRefs τ sig) sub_op6 (V := V8 m d)) $$ [Hb Hheld]
  · isplitl [Hb] <;> iassumption
  iintro ⟨Hb, Hheld⟩
  rw [wp_ret]; imodintro
  iapply (StableHlo.wp_hlo_within 𝒱 (SparseCore.T d) none Set.univ (op := op7 (F := F)) (S := Pipeline.ucRefs τ sig) sub_op7 (V := _)) $$ [Hb Hheld]
  · isplitl [Hb] <;> iassumption
  iintro ⟨Hb, Hheld⟩
  rw [wp_ret]; imodintro
  iapply (StableHlo.wp_hlo_within 𝒱 (SparseCore.T d) none Set.univ (op := op8 (F := F)) (S := Pipeline.ucRefs τ sig) sub_op8 (V := _)) $$ [Hb Hheld]
  · isplitl [Hb] <;> iassumption
  iintro ⟨Hb, Hheld⟩
  rw [wp_ret]; imodintro
  iapply (StableHlo.wp_hlo_within 𝒱 (SparseCore.T d) none Set.univ (op := op9 (F := F)) (S := Pipeline.ucRefs τ sig) sub_op9 (V := _)) $$ [Hb Hheld]
  · isplitl [Hb] <;> iassumption
  iintro ⟨Hb, Hheld⟩
  rw [wp_ret]; imodintro
  iapply (StableHlo.wp_hlo_within 𝒱 (SparseCore.T d) none Set.univ (op := op10 (F := F)) (S := Pipeline.ucRefs τ sig) sub_op10 (V := _)) $$ [Hb Hheld]
  · isplitl [Hb] <;> iassumption
  iintro ⟨Hb, Hheld⟩
  rw [wp_ret]; imodintro
  imodintro
  isplitl [Hst]; · iexact Hst
  isplitr [Hb Hts]
  · iexact Hheld
  isplitl [Hb] <;> iassumption

/-! ## The launch -/

def u₀ : UU := (initOf (K (F := F)).hsCells (K (F := F)).hsToks,
  initOf (Pipeline.cells (Pipeline.pin (pcfgs (F := F)) adm) cellOf_inj) (Pipeline.launchToks (Pipeline.pin (pcfgs (F := F)) adm) cellOf_inj), 1)

omit [FloatOps F] in
theorem ownU_split (a : UH) (b : UP) (c : Counters) : (ownU (a, b, c) : sProp 𝕄) ⊢ iprop(BI.own (EH a) ∗ BI.own (EP b)) := by
  have h1 : (ownU (a, b, c) : sProp 𝕄) ⊢ iprop(BI.own (EH a) ∗ BI.own (((Emb.inr : Emb (UP × Counters) UU).trans
      (uEmb (nD := nD) (sig := sig) (Ix := HIx 1) (Val := Elt F) (Name := ℕ) (U := UU) (Lvl := ℕ)).toEmb) (b, c))) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, c))))
  have h2 : (BI.own (((Emb.inr : Emb (UP × Counters) UU).trans
      (uEmb (nD := nD) (sig := sig) (Ix := HIx 1) (Val := Elt F) (Name := ℕ) (U := UU) (Lvl := ℕ)).toEmb) (b, c)) : sProp 𝕄)
      ⊢ iprop(BI.own (EP b) ∗ BI.own (((Emb.inr : Emb (UP × Counters) UU).trans
      (uEmb (nD := nD) (sig := sig) (Ix := HIx 1) (Val := Elt F) (Name := ℕ) (U := UU) (Lvl := ℕ)).toEmb) (1, c))) :=
    BI.own_op_elim (((Emb.inr : Emb (UP × Counters) UU).trans
      (uEmb (nD := nD) (sig := sig) (Ix := HIx 1) (Val := Elt F) (Name := ℕ) (U := UU) (Lvl := ℕ)).toEmb).op_of_mem
      (Prod.mk_mem_op (URA.mem_op_one b) (URA.mem_one_op c)))
  iintro H
  ihave H := h1 $$ H
  icases H with ⟨Ha, H⟩
  ihave H := h2 $$ H
  icases H with ⟨Hb, -⟩
  isplitl [Ha] <;> iassumption

/-- The two pipelines' ghost state, dealt to the devices. -/
theorem ghosts : iprop((bigSep Finset.univ fun c : Dev nD => bigSep Finset.univ fun p => Pipeline.cellsGhost (Pipeline.pin (pcfgs (F := F)) adm) EP p c)
      ∗ (bigSep Finset.univ fun c : Dev nD => bigSep Finset.univ fun p => Pipeline.toksInit (Pipeline.pin (pcfgs (F := F)) adm) EP p c))
    ⊢ (bigSep Finset.univ fun d : Dev nD => GG (F := F) d : sProp 𝕄) := by
  rw [bigSep_univ_of_subsingleton (0 : Dev nD), bigSep_univ_of_subsingleton (0 : Dev nD), bigSep_univ_of_subsingleton (0 : Dev nD)]
  rw [show (Finset.univ : Finset (Fin 2)) = {0, 1} from rfl, SparseCore.bigSep_insert' (by decide), bigSep_singleton,
    SparseCore.bigSep_insert' (by decide), bigSep_singleton]
  unfold GG
  iintro ⟨⟨Hg0, Hg1⟩, Ht0, Ht1⟩
  isplitl [Hg0 Ht0]
  · isplitl [Hg0]; · iexact Hg0
    iexact Ht0
  isplitl [Hg1]; · iexact Hg1
  iexact Ht1

theorem bigSep_emps {I : Type} (s : Finset I) : (bigSep s fun _ => iprop(emp)) = (iprop(emp) : sProp 𝕄) := bigSep_emp_const s

/-- The launch element pays the handshakes' rounds and both pipelines' ghost state. -/
theorem hu₀ : (ownU (u₀ (F := F)) : sProp 𝕄)
    ⊢ |={Set.univ}=> iprop(BI.own (EH (initOf (K (F := F)).hsCells (K (F := F)).hsToks)) ∗ (bigSep Finset.univ fun d : Dev nD => GG (F := F) d)
        ∗ bigSep Finset.univ fun thr : Thread nD τ => bigSep Finset.univ fun q : Fin 1 => (PP m).x q thr) := by
  unfold u₀
  iintro Hu
  ihave H := (ownU_split _ _ _) $$ Hu
  icases H with ⟨HH, HP⟩
  imod (Pipeline.fund_ghost (Pipeline.pin (pcfgs (F := F)) adm) EP cellOf_inj) $$ HP with ⟨Hg, Ht⟩
  imodintro
  isplitl [HH]; · iexact HH
  isplitl [Hg Ht]
  · iapply ghosts; isplitl [Hg] <;> iassumption
  rw [show (fun thr : Thread nD τ => bigSep Finset.univ fun q : Fin 1 => (PP m).x q thr) = fun _ => (iprop(emp) : sProp 𝕄) from
    funext fun _ => bigSep_univ_of_subsingleton (0 : Fin 1), bigSep_emps]
  iempintro

/-- Buffers held whole at a valuation are at it in the state. -/
theorem held_read (d : Dev nD) (V : Valuation τ sig (Elt F)) (s' : Phys nD τ sig (Elt F)) (Sx : Finset (DevRef τ sig)) :
    iprop(StableHlo.held (T d) Sx V ∗ SI s') ⊢ (⌜∀ b ∈ Sx, s'.mem.mem (d, b) = V b⌝ : sProp 𝕄) := by
  classical
  induction Sx using Finset.induction_on with
  | empty => iintro -; ipureintro; exact fun b hb => absurd hb (Finset.notMem_empty b)
  | insert b Sx hb ih =>
    unfold StableHlo.held at ih ⊢
    rw [SparseCore.bigSep_insert' hb]
    iintro ⟨⟨Hb, Hr⟩, HSI⟩
    ihave H := (persistent_entails_right (SI_pointsTo_agree (st := s') (ℓ := ((d, b) : Loc nD τ sig)) (I := Finset.univ) (q := fullShare) (f := V b))) $$ [HSI Hb]
    · isplitl [HSI] <;> iassumption
    icases H with ⟨%hx, HSI, -⟩
    ihave H := ih $$ [Hr HSI]
    · isplitl [Hr] <;> iassumption
    icases H with %hr
    ipureintro
    intro b' hb'
    rcases Finset.mem_insert.mp hb' with rfl | h
    · exact funext fun i => hx i (Finset.mem_univ i)
    · exact hr b' h

/-- What the claims read of the final state: the TensorCore's buffers at `V9`, -/
def fq (d : Dev nD) (s' : Phys nD τ sig (Elt F)) : Prop := ∀ b ∈ Pipeline.ucRefs τ sig, s'.mem.mem (d, b) = V9 m d b

theorem hfin (d : Dev nD) (s' : Phys nD τ sig (Elt F)) : iprop(FIN m d ∗ SI s') ⊢ (⌜fq m d s'⌝ : sProp 𝕄) := held_read d (V9 m d) s' _

/-- and every counter at zero. -/
def QC : PUnit × MemSt nD τ sig (Elt F) → Prop :=
  fun r => (∀ c : Dev nD, ∀ b ∈ Pipeline.ucRefs τ sig, r.2.mem (c, b) = V9 m c b) ∧ r.2.sem = fun _ => 0

/-- The program runs from any memory and ends with the TensorCore's buffers at `V9`. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) launchFacts v₀
    (fun q hq => match q with | 0 => nomatch hq)
    (fun q _ => match q with | 0 => tileObl _ _ _ launchFacts)
    (fun q _ => match q with | 0 => SparseCore.Cfg.VecSplit.of_plain (vecSplit _ _ _))
    m ρ main GG (FIN m) (u₀ (F := F)) (sep_elim_left.trans (hu₀ m)) (hmain m ρ) (fq m) (hfin m) (QC m) (fun _ h hz => ⟨h, hz⟩)

end Cert.Proof.Run

end
-- ==== Proof.Same.lean ====
/-
  The kernel and its idealised text are one program: none of the kernel's operations was rewritten, so the two
  printed modules define the same bodies. Read at the machine's own numbers they are equal definitions.
-/
module

public import proofs.«01_k».proof.KernelIdeal
public import proofs.«01_k».proof.Kernel
public import proofs.«01_k».proof.Proof.Gen.KernelIdeal
public import proofs.«01_k».proof.Proof.Gen.Kernel
public import Idealize.ShloMosaic.PureOps.BitExact

@[expose] public section

noncomputable section

namespace Cert.Proof.Run

open Idealize.ShloMosaic Idealize.SL.Sem

/-- Every body of the kernel is the body of the same label in the idealised text. -/
theorem defs₀_same : Cert.Kernel.defs₀ (F := Bits) = Cert.KernelIdeal.defs₀ (F := Bits) := by
  funext κ ℓ a
  match κ, ℓ, a with
  | .tc, 0, (t, s) => exact rfl
  | .tc, 1, _ => exact rfl
  | .tc, 2, (t, s) => exact rfl
  | .scScalar c, 0, _ => exact rfl
  | .scScalar c, 1, _ => exact rfl
  | .scScalar c, 2, _ => exact rfl
  | .scVector c s, 0, _ => exact rfl
  | .scVector c s, 1, _ =>
    simp only [Cert.Kernel.defs₀, Cert.KernelIdeal.defs₀]
    unfold SparseCore.onTile
    exact rfl
  | .scVector c s, 2, _ => exact rfl

/-- The whole table of bodies, the launch's own among them, is the same. -/
theorem defs_same : Cert.Kernel.defs (F := Bits) = Cert.KernelIdeal.defs (F := Bits) := by
  unfold Cert.Kernel.defs Cert.KernelIdeal.defs
  rw [defs₀_same]
  rfl

/-- So are the threads the program starts. -/
theorem threads_same : Cert.Kernel.threads (F := Bits) = Cert.KernelIdeal.threads (F := Bits) := rfl

end Cert.Proof.Run

end
-- ==== Proof.Frames.lean ====
/-
  What is stated of the final buffers: the arguments are as they were at the launch.
-/
module

public import proofs.«01_k».proof.Proof.Main
public import proofs.«01_k».proof.Proof.Same
public import proofs.«01_k».proof.Proof.Gen.KernelIdeal
public import proofs.«01_k».proof.Proof.Gen.Kernel
public import proofs.«01_k».proof.Defs
public import proofs.«01_k».proof.Proof.Gen.ReferenceIdeal.Run

@[expose] public section

noncomputable section

namespace Cert.Proof.Run

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- No operation before the first kernel writes a reference other than its four results. -/
theorem V4_keep (d : Dev nD) {b : Ref sig .tc} (h0 : b ≠ main_v0) (h1 : b ≠ main_v1) (h2 : b ≠ main_v2) (h3 : b ≠ main_v3) :
    V4 m d (dr b) = m (d, dr b) := by
  unfold V4
  rw [StableHlo.unary_result_ne _ _ _ _ _ _ h3, StableHlo.reshape_result_ne _ _ _ _ _ _ _ h2, StableHlo.reshape_result_ne _ _ _ _ _ _ _ h1,
    StableHlo.reshape_result_ne _ _ _ _ _ _ _ h0]
  rfl

/-- The first kernel and the reshape after it write the logits' two buffers, -/
theorem V6_keep (d : Dev nD) {b : Ref sig .tc} (h4 : b ≠ main_v4) (h5 : b ≠ main_v5) : V6 m d (dr b) = V4 m d (dr b) := by
  unfold V6
  rw [StableHlo.reshape_result_ne _ _ _ _ _ _ _ h5]
  exact Function.update_of_ne (dr_ne h4) _ _

/-- the SparseCore call its two results, -/
theorem V7_keep (d : Dev nD) {b : Ref sig .tc} (h6 : b ≠ main_v6_0) (h7 : b ≠ main_v6_1) : V7 m d (dr b) = V6 m d (dr b) := by
  unfold V7; rw [Function.update_of_ne (dr_ne h7), Function.update_of_ne (dr_ne h6)]

/-- the second kernel its three, -/
theorem V8_keep (d : Dev nD) {b : Ref sig .tc} (h0 : b ≠ main_v7_0) (h1 : b ≠ main_v7_1) (h2 : b ≠ main_v7_2) : V8 m d (dr b) = V7 m d (dr b) := by
  unfold V8; rw [Function.update_of_ne (dr_ne h2), Function.update_of_ne (dr_ne h1), Function.update_of_ne (dr_ne h0)]

/-- and the last five operations theirs. -/
theorem V9_keep (d : Dev nD) {b : Ref sig .tc} (h8 : b ≠ main_v8) (h9 : b ≠ main_v9) (h10 : b ≠ main_v10) (h11 : b ≠ main_v11) (h12 : b ≠ main_v12) :
    V9 m d (dr b) = V8 m d (dr b) := by
  unfold V9
  rw [StableHlo.binary_result_ne _ _ _ _ _ _ _ _ h12, StableHlo.binary_result_ne _ _ _ _ _ _ _ _ h11, StableHlo.reshape_result_ne _ _ _ _ _ _ _ h10,
    StableHlo.binary_result_ne _ _ _ _ _ _ _ _ h9, StableHlo.reshape_result_ne _ _ _ _ _ _ _ h8]

/-- The four arguments end as they began. -/
theorem V9_arg (d : Dev nD) (b : Ref sig .tc) (hb : b = main_arg0 ∨ b = main_arg1 ∨ b = main_arg2 ∨ b = main_arg3) : V9 m d (dr b) = m (d, dr b) := by
  rcases hb with rfl | rfl | rfl | rfl <;>
    rw [V9_keep _ _ (by decide) (by decide) (by decide) (by decide) (by decide), V8_keep _ _ (by decide) (by decide) (by decide),
      V7_keep _ _ (by decide) (by decide), V6_keep _ _ (by decide) (by decide), V4_keep _ _ (by decide) (by decide) (by decide) (by decide)]

/-- A TensorCore's reference the program does not scope is among the buffers the run reads. -/
theorem mem_uc (b : Ref sig .tc) (h : (dr b).isScoped = false) : dr b ∈ Pipeline.ucRefs τ sig :=
  Finset.mem_filter.mpr ⟨StableHlo.devRef_mem_tcRefs b, by rw [h]; decide⟩

/-- The arguments in a final state of the run. -/
theorem QC_args {r : PUnit × MemSt nD τ sig (Elt F)} (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨(h.1 c _ (mem_uc main_arg0 rfl)).trans (V9_arg m c main_arg0 (by decide)), (h.1 c _ (mem_uc main_arg1 rfl)).trans (V9_arg m c main_arg1 (by decide)),
    (h.1 c _ (mem_uc main_arg2 rfl)).trans (V9_arg m c main_arg2 (by decide)), (h.1 c _ (mem_uc main_arg3 rfl)).trans (V9_arg m c main_arg3 (by decide))⟩

/-- Over any float values the program ends, its arguments unchanged, every counter at zero. -/
theorem run_args [∀ e, Nonempty (Elt F e)] :
    θ_run (Cert.KernelIdeal.defs (F := F)) (Cert.KernelIdeal.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run Cert.KernelIdeal.defs _ _).mono (fun _ h => ⟨QC_args m h, h.2⟩) (run_main (F := F) m ρ)

/-- The idealized kernel's frame, -/
theorem frame_kernelIdeal : Cert.quiescent_KernelIdeal := fun m ρ _ => run_args (F := Ideal) m ρ

/-- and the kernel's as printed: the two programs are one. -/
theorem frame_kernel : Cert.quiescent_Kernel := by
  intro m ρ _
  rw [defs_same, threads_same]
  exact run_args (F := Bits) m ρ

/-- The reference's frame: host operations only, none of which writes an argument, and no semaphore declared. -/
theorem frame_reference : Cert.quiescent_ReferenceIdeal := by
  intro m ρ _
  exact (θ_run Cert.ReferenceIdeal.defs _ _).mono (fun r h => ⟨fun c => (h c).2.2.2,
      Idealize.ShloMosaic.sem_eq_zero_of_no_sems (by decide) r.2⟩)
    (Cert.ReferenceIdeal.Value.run m ρ)

end Cert.Proof.Run

end
-- ==== Proof.Row.lean ====
/-
  Numbers used by both programs' constants, and the arithmetic of one row: what the constants denote, the clamp, the layer norm's division by
  a root against multiplication by its reciprocal, and the softmax with and without the row's maximum taken off.
-/
module

public import Idealize.ShloMosaic.PureOps.Ideal
public import Idealize.ShloMosaic.Lib.Pointwise

@[expose] public section

noncomputable section

namespace Cert.Proof.Row

open Idealize.ShloMosaic

/-! ## The constants -/

/-- 1e-4 as the programs write it, -/
abbrev eps : EReal := Ideal.ofBits .f32 0x38D1B717#32
/-- 1e-5, -/
abbrev tiny : EReal := Ideal.ofBits .f32 0x3727C5AC#32
/-- 2048. -/
abbrev width : EReal := Ideal.ofBits .f32 0x45000000#32

theorem eps_eq : eps = ((13743895 / 2 ^ 37 : ℝ) : EReal) := by
  simp [eps, Ideal.ofBits, Ideal.ieee]
  rw [← EReal.coe_mul]; norm_num

theorem tiny_eq : tiny = ((10995116 / 2 ^ 40 : ℝ) : EReal) := by
  simp [tiny, Ideal.ofBits, Ideal.ieee]
  rw [← EReal.coe_mul]; norm_num

theorem width_eq : width = ((2048 : ℝ) : EReal) := by
  simp [width, Ideal.ofBits, Ideal.ieee]
  rw [← EReal.coe_mul]; norm_num

theorem one_eq : Ideal.ofBits .f32 0x3F800000#32 = ((1 : ℝ) : EReal) := by
  simp [Ideal.ofBits, Ideal.ieee]
  rw [← EReal.coe_mul]; norm_num

theorem negOne_eq : Ideal.ofBits .f32 0xBF800000#32 = ((-1 : ℝ) : EReal) := by
  simp [Ideal.ofBits, Ideal.ieee]
  rw [← EReal.coe_mul]; norm_num

theorem fifty_eq : Ideal.ofBits .f32 0x42480000#32 = ((50 : ℝ) : EReal) := by
  simp [Ideal.ofBits, Ideal.ieee]
  rw [← EReal.coe_mul]; norm_num

theorem negFifty_eq : Ideal.ofBits .f32 0xC2480000#32 = ((-50 : ℝ) : EReal) := by
  simp [Ideal.ofBits, Ideal.ieee]
  rw [← EReal.coe_mul]; norm_num

theorem ten_eq : Ideal.ofBits .f32 0x41200000#32 = ((10 : ℝ) : EReal) := by
  simp [Ideal.ofBits, Ideal.ieee]
  rw [← EReal.coe_mul]; norm_num

theorem negTen_eq : Ideal.ofBits .f32 0xC1200000#32 = ((-10 : ℝ) : EReal) := by
  simp [Ideal.ofBits, Ideal.ieee]
  rw [← EReal.coe_mul]; norm_num

theorem top_eq : Ideal.ofBits .f32 0x7F800000#32 = (⊤ : EReal) := by
  simp [Ideal.ofBits, Ideal.ieee]

theorem bot_eq : Ideal.ofBits .f32 0xFF800000#32 = (⊥ : EReal) := by
  simp [Ideal.ofBits, Ideal.ieee]

theorem zero_eq : Ideal.ofBits .f32 0x00000000#32 = (0 : EReal) := Ideal.ofBits_zero_f32

/-! ## One row of the router -/

/-- A row's mean, -/
def mean (x : Fin 2048 → EReal) : EReal := Ideal.div (∑ k, x k) width
/-- its deviations from it, -/
def dev (x : Fin 2048 → EReal) (k : Fin 2048) : EReal := x k - mean x
/-- and their variance, with the small number added. -/
def spread (x : Fin 2048 → EReal) : EReal := Ideal.div (∑ k, dev x k * dev x k) width + tiny
/-- The layer norm, the deviations multiplied by the reciprocal root. -/
def normed (x w b : Fin 2048 → EReal) (k : Fin 2048) : EReal := dev x k * Ideal.rsqrt (spread x) * w k + b k
/-- A number clamped between two others. -/
def clamp (lo hi x : EReal) : EReal := min hi (max lo x)
/-- The row's clamped logit of expert `e`. -/
def logit (x w b : Fin 2048 → EReal) (g : Fin 2048 → Fin 64 → EReal) (e : Fin 64) : EReal :=
  clamp (Ideal.ofBits .f32 0xC1200000#32) (Ideal.ofBits .f32 0x41200000#32)
    (∑ k, clamp (Ideal.ofBits .f32 0xC2480000#32) (Ideal.ofBits .f32 0x42480000#32) (normed x w b k) * g k e)
/-- The largest logit of a row, -/
def peak (l : Fin 64 → EReal) : EReal := Finset.univ.fold max ⊥ l
/-- the row's softmax, -/
def soft (l : Fin 64 → EReal) (e : Fin 64) : EReal := Ideal.div (Ideal.exp (l e - peak l)) (∑ k, Ideal.exp (l k - peak l))
/-- and the softmax clamped between 1e-4 and 1. -/
def prob (l : Fin 64 → EReal) (e : Fin 64) : EReal := clamp eps 1 (soft l e)

/-- Dividing by a positive number's root is multiplying by the root's reciprocal. -/
theorem div_sqrt (d v : EReal) (hv : 0 < v) : Ideal.div d (Ideal.sqrt v) = d * Ideal.rsqrt v := by
  induction v using EReal.rec with
  | bot => exact absurd hv (by simp)
  | top =>
    have h1 : Ideal.sqrt ⊤ = ⊤ := rfl
    have h2 : Ideal.rsqrt ⊤ = 0 := rfl
    rw [h1, h2, Ideal.div, if_neg EReal.top_ne_zero, EReal.inv_top]
  | coe r =>
    have hr : 0 < r := by exact_mod_cast hv
    have hs : 0 < Real.sqrt r := Real.sqrt_pos.mpr hr
    have h1 : Ideal.sqrt (r : EReal) = ((Real.sqrt r : ℝ) : EReal) := by
      show (if r < 0 then (⊥ : EReal) else ((Real.sqrt r : ℝ) : EReal)) = _
      rw [if_neg hr.not_gt]
    have h2 : Ideal.rsqrt (r : EReal) = (((Real.sqrt r)⁻¹ : ℝ) : EReal) := by
      show (if r < 0 then (⊥ : EReal) else if r = 0 then ⊤ else (((Real.sqrt r)⁻¹ : ℝ) : EReal)) = _
      rw [if_neg hr.not_gt, if_neg hr.ne']
    rw [h1, h2, Ideal.div, if_neg (by exact_mod_cast hs.ne'), EReal.coe_inv]

theorem sq_nonneg (x : EReal) : 0 ≤ x * x := by
  induction x using EReal.rec with
  | bot => simp
  | top => simp
  | coe r => rw [← EReal.coe_mul]; exact_mod_cast mul_self_nonneg r

/-- The variance with the small number added is positive. -/
theorem spread_pos (x : Fin 2048 → EReal) : 0 < spread x := by
  have h0 : 0 ≤ ∑ k, dev x k * dev x k := Finset.sum_nonneg fun k _ => sq_nonneg _
  have h1 : 0 ≤ Ideal.div (∑ k, dev x k * dev x k) width := by
    rw [width_eq, Ideal.div, if_neg (by norm_num)]
    exact mul_nonneg h0 (by rw [← EReal.coe_inv]; exact_mod_cast (by norm_num : (0:ℝ) ≤ 2048⁻¹))
  have h2 : 0 < tiny := by rw [tiny_eq]; exact_mod_cast (by norm_num : (0:ℝ) < 10995116 / 2 ^ 40)
  exact lt_of_lt_of_le h2 (le_add_of_nonneg_left h1)

/-- An infinite number of one sign replaced: by 50 where it is the positive one, -/
def noTop (y : EReal) : EReal :=
  Scalar.select (IntOp.andi (BitVec.ofBool (decide (max y (-y) = Ideal.ofBits .f32 0x7F800000#32))) (BitVec.ofBool (decide (0 < y))))
    (Ideal.ofBits .f32 0x42480000#32) y
/-- by −50 where it is the negative one. -/
def noBot (y : EReal) : EReal :=
  Scalar.select (IntOp.andi (BitVec.ofBool (decide (max y (-y) = Ideal.ofBits .f32 0x7F800000#32))) (BitVec.ofBool (decide (y < 0))))
    (Ideal.ofBits .f32 0xC2480000#32) y

theorem abs_coe_ne_top (r : ℝ) : max ((r : ℝ) : EReal) (-(r : EReal)) ≠ ⊤ := by
  rw [← EReal.coe_neg, ← EReal.coe_strictMono.monotone.map_max]; exact EReal.coe_ne_top _

/-- The clamp that first takes the infinities away is the clamp. -/
theorem safe_clamp (x : EReal) :
    clamp (Ideal.ofBits .f32 0xC2480000#32) (Ideal.ofBits .f32 0x42480000#32) (noBot (noTop x))
    = clamp (Ideal.ofBits .f32 0xC2480000#32) (Ideal.ofBits .f32 0x42480000#32) x := by
  unfold noBot noTop
  simp only [fifty_eq, negFifty_eq, top_eq]
  induction x using EReal.rec with
  | bot => simp [clamp, Scalar.select, IntOp.andi]
  | top =>
    have h := abs_coe_ne_top 50
    simp [clamp, Scalar.select, IntOp.andi, h]
  | coe r =>
    have h := abs_coe_ne_top r
    simp [Scalar.select, IntOp.andi, h]

/-! ## The softmax -/

/-- A clamped number is a real one. -/
theorem clamp_real (x : EReal) (lo hi : ℝ) : ∃ r : ℝ, clamp lo hi x = r := by
  have h1 : clamp lo hi x ≠ ⊤ := ne_top_of_le_ne_top (EReal.coe_ne_top hi) (min_le_left _ _)
  have h2 : clamp lo hi x ≠ ⊥ := by
    intro h
    have : min (hi : EReal) (lo : EReal) ≤ clamp lo hi x := min_le_min_left _ (le_max_left _ _)
    rw [h, ← EReal.coe_strictMono.monotone.map_min] at this
    exact EReal.coe_ne_bot _ (le_bot_iff.mp this)
  exact ⟨_, (EReal.coe_toReal h1 h2).symm⟩

theorem logit_real (x w b : Fin 2048 → EReal) (g : Fin 2048 → Fin 64 → EReal) : ∃ r : Fin 64 → ℝ, logit x w b g = fun e => (r e : EReal) := by
  have h : ∀ e, ∃ r : ℝ, logit x w b g e = r := fun e => by
    unfold logit; rw [negTen_eq, ten_eq]; exact clamp_real _ _ _
  exact ⟨fun e => (h e).choose, funext fun e => (h e).choose_spec⟩

theorem exp_coe (r : ℝ) : Ideal.exp (r : EReal) = ((Real.exp r : ℝ) : EReal) := rfl

theorem sum_coe (r : Fin 64 → ℝ) : ∑ k, ((r k : ℝ) : EReal) = ((∑ k, r k : ℝ) : EReal) := by
  exact (map_sum (⟨⟨fun x : ℝ => (x : EReal), EReal.coe_zero⟩, EReal.coe_add⟩ : ℝ →+ EReal) r Finset.univ).symm

theorem div_coe (x y : ℝ) (hy : y ≠ 0) : Ideal.div (x : EReal) (y : EReal) = ((x / y : ℝ) : EReal) := by
  rw [Ideal.div, if_neg (by exact_mod_cast hy), ← EReal.coe_inv, ← EReal.coe_mul, div_eq_mul_inv]

/-- The softmax of real logits, without their maximum. -/
theorem soft_eq (r : Fin 64 → ℝ) (e : Fin 64) :
    soft (fun k => (r k : EReal)) e = ((Real.exp (r e) / ∑ k, Real.exp (r k) : ℝ) : EReal) := by
  have hp : ∃ M : ℝ, peak (fun k => (r k : EReal)) = M := by
    obtain ⟨m, _, hm⟩ := Finset.exists_max_image (Finset.univ : Finset (Fin 64)) r ⟨0, Finset.mem_univ _⟩
    refine ⟨r m, le_antisymm ?_ ?_⟩
    · unfold peak; rw [Finset.fold_max_le]
      exact ⟨bot_le, fun k hk => by exact_mod_cast hm k hk⟩
    · unfold peak; rw [Finset.le_fold_max]; exact Or.inr ⟨m, Finset.mem_univ _, le_rfl⟩
  obtain ⟨M, hM⟩ := hp
  have hpos : (0 : ℝ) < ∑ k, Real.exp (r k - M) := Finset.sum_pos (fun k _ => Real.exp_pos _) ⟨0, Finset.mem_univ _⟩
  unfold soft
  simp only [hM, ← EReal.coe_sub, exp_coe]
  rw [sum_coe, div_coe _ _ hpos.ne']
  congr 1
  simp only [Real.exp_sub, ← Finset.sum_div]
  rw [div_div_div_cancel_right₀ (Real.exp_pos M).ne']

/-- The exponential of a logit over the sum of all, the maximum never taken off, is the softmax. -/
theorem plain_soft (r : Fin 64 → ℝ) (e : Fin 64) :
    Ideal.div (Ideal.exp (r e : EReal)) (∑ k, Ideal.exp (r k : EReal)) = soft (fun k => (r k : EReal)) e := by
  have hpos : (0 : ℝ) < ∑ k, Real.exp (r k) := Finset.sum_pos (fun k _ => Real.exp_pos _) ⟨0, Finset.mem_univ _⟩
  rw [soft_eq]
  simp only [exp_coe]
  rw [sum_coe, div_coe _ _ hpos.ne']

theorem soft_lt (r : Fin 64 → ℝ) {j k : Fin 64} (h : (r j : EReal) < r k) :
    soft (fun k => (r k : EReal)) j < soft (fun k => (r k : EReal)) k := by
  have hpos : (0 : ℝ) < ∑ k, Real.exp (r k) := Finset.sum_pos (fun k _ => Real.exp_pos _) ⟨0, Finset.mem_univ _⟩
  rw [soft_eq, soft_eq]
  have h' : r j < r k := by exact_mod_cast h
  exact_mod_cast div_lt_div_of_pos_right (Real.exp_lt_exp.mpr h') hpos

theorem soft_le_one (r : Fin 64 → ℝ) (e : Fin 64) : soft (fun k => (r k : EReal)) e ≤ ((1 : ℝ) : EReal) := by
  have hpos : (0 : ℝ) < ∑ k, Real.exp (r k) := Finset.sum_pos (fun k _ => Real.exp_pos _) ⟨0, Finset.mem_univ _⟩
  rw [soft_eq]
  have h := Finset.single_le_sum (f := fun k => Real.exp (r k)) (fun k _ => (Real.exp_pos _).le) (Finset.mem_univ e)
  exact_mod_cast (div_le_one hpos).mpr h

/-- The clamp keeps a softmax above 1e-4. -/
theorem prob_of_gt (r : Fin 64 → ℝ) (e : Fin 64) (h : eps < soft (fun k => (r k : EReal)) e) :
    prob (fun k => (r k : EReal)) e = soft (fun k => (r k : EReal)) e := by
  unfold prob clamp
  rw [max_eq_right h.le, min_eq_right (by simpa using soft_le_one r e)]

/-- A softmax less than one above 1e-4 stays less when clamped. -/
theorem prob_lt (r : Fin 64 → ℝ) {j k : Fin 64} (h : (r j : EReal) < r k) (hk : eps < soft (fun k => (r k : EReal)) k) :
    prob (fun k => (r k : EReal)) j < prob (fun k => (r k : EReal)) k := by
  rw [prob_of_gt r k hk]
  unfold prob clamp
  exact lt_of_le_of_lt (min_le_right _ _) (max_lt hk (soft_lt r h))

/-- A clamped softmax is more than −1. -/
theorem negOne_lt_prob (l : Fin 64 → EReal) (e : Fin 64) : Ideal.ofBits .f32 0xBF800000#32 < prob l e := by
  unfold prob clamp
  rw [negOne_eq, eps_eq]
  refine lt_min (by exact_mod_cast (by norm_num : (-1 : ℝ) < 1)) (lt_of_lt_of_le ?_ (le_max_left _ _))
  exact_mod_cast (by norm_num : (-1 : ℝ) < 13743895 / 2 ^ 37)

end Cert.Proof.Row

end
-- ==== Proof.Rank.lean ====
/-
  The two largest of 64 numbers, equal ones counted in the order of their positions: what it says of two positions that they are those two
  (`IsTop2`), that the stable sort behind a top-k puts exactly them first, and that a maximum followed by the least position reaching it
  finds them.
-/
module

public import Idealize.ShloMosaic.PureOps.Ideal
public import Idealize.ShloMosaic.Lib.SortPrefix
public import Idealize.ShloMosaic.Lib.Pointwise

@[expose] public section

noncomputable section

namespace Cert.Proof.Rank

open Idealize.ShloMosaic

variable {n : ℕ}

/-- Position `a` holds the largest number among the positions of which `P` holds, and is the first to hold it. -/
def FirstMax (P : Fin n → Prop) (p : Fin n → EReal) (a : Fin n) : Prop := P a ∧ ∀ k, P k → p k < p a ∨ (p k = p a ∧ a ≤ k)

/-- Positions `a` and `b` hold the largest number and the largest of the others, each the first to hold it. -/
def IsTop2 (p : Fin n → EReal) (a b : Fin n) : Prop := FirstMax (fun _ => True) p a ∧ FirstMax (fun k => k ≠ a) p b

theorem FirstMax.le {P : Fin n → Prop} {p : Fin n → EReal} {a : Fin n} (h : FirstMax P p a) (k : Fin n) (hk : P k) : p k ≤ p a := by
  rcases h.2 k hk with h | h
  · exact h.le
  · exact h.1.le

theorem FirstMax.unique {P : Fin n → Prop} {p : Fin n → EReal} {a b : Fin n} (h : FirstMax P p a) (h' : FirstMax P p b) : a = b := by
  have e : p a = p b := le_antisymm (h'.le a h.1) (h.le b h'.1)
  rcases h.2 b h'.1 with h1 | h1
  · exact absurd e.symm h1.ne
  rcases h'.2 a h.1 with h2 | h2
  · exact absurd e h2.ne
  exact le_antisymm h1.2 h2.2

theorem IsTop2.unique {p : Fin n → EReal} {a b a' b' : Fin n} (h : IsTop2 p a b) (h' : IsTop2 p a' b') : a = a' ∧ b = b' := by
  obtain rfl := h.1.unique h'.1
  exact ⟨rfl, h.2.unique h'.2⟩

/-- Among positions of which `P` holds of one there is a first largest. -/
theorem exists_firstMax (P : Fin n → Prop) (p : Fin n → EReal) (hP : ∃ a, P a) : ∃ a, FirstMax P p a := by
  classical
  obtain ⟨a0, ha0⟩ := hP
  obtain ⟨m, hm, hmax⟩ := Finset.exists_max_image (Finset.univ.filter P) p ⟨a0, by simpa using ha0⟩
  have hmP : P m := by simpa using hm
  obtain ⟨a, ha, hmin⟩ := Finset.exists_min_image (Finset.univ.filter fun k => P k ∧ p k = p m) id ⟨m, by simp [hmP]⟩
  have ha' : P a ∧ p a = p m := by simpa using ha
  refine ⟨a, ha'.1, fun k hk => ?_⟩
  rcases lt_or_eq_of_le (hmax k (by simpa using hk)) with h | h
  · exact Or.inl (h.trans_eq ha'.2.symm)
  · exact Or.inr ⟨h.trans ha'.2.symm, hmin k (by simp [hk, h])⟩

theorem exists_isTop2 (p : Fin 64 → EReal) : ∃ a b, IsTop2 p a b := by
  obtain ⟨a, ha⟩ := exists_firstMax (fun _ => True) p ⟨0, trivial⟩
  obtain ⟨b, hb⟩ := exists_firstMax (fun k => k ≠ a) p (by
    by_cases h : a = 0
    · exact ⟨1, by rw [h]; decide⟩
    · exact ⟨0, fun e => h e.symm⟩)
  exact ⟨a, b, ha, hb⟩

/-- Numbers ordered strictly as `l` is have the same two positions. -/
theorem IsTop2.mono {l p : Fin n → EReal} {a b : Fin n} (h : IsTop2 l a b)
    (ha : ∀ k, l k < l a → p k < p a) (hb : ∀ k, l k < l b → p k < p b) (he : ∀ j k, l j = l k → p j = p k) : IsTop2 p a b := by
  refine ⟨⟨trivial, fun k hk => ?_⟩, ⟨h.2.1, fun k hk => ?_⟩⟩
  · rcases h.1.2 k hk with h | h
    · exact Or.inl (ha k h)
    · exact Or.inr ⟨he _ _ h.1, h.2⟩
  · rcases h.2.2 k hk with h | h
    · exact Or.inl (hb k h)
    · exact Or.inr ⟨he _ _ h.1, h.2⟩

/-! ## The stable sort -/

/-- Sorting an increasing list of positions asks of two of them only whether the later goes before the earlier. -/
theorem stableSort_congr_later (R R' : Fin n → Fin n → Bool) (h : ∀ a b, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

theorem sortedFrom_congr_later (R R' : Fin n → Fin n → Bool) (h : ∀ a b, a < b → R b a = R' b a) : sortedFrom R = sortedFrom R' := by
  funext k
  unfold sortedFrom
  exact List.get_of_eq (stableSort_congr_later R R' h (List.finRange n) (List.pairwise_lt_finRange n) : sortPositions n R = sortPositions n R') _

/-- The larger number first. -/
abbrev greater (p : Fin n → EReal) (k k' : Fin n) : Bool := decide (p k' < p k)

/-- The larger number first, of equal ones the earlier position. -/
abbrev greaterThen (p : Fin n → EReal) (k k' : Fin n) : Bool := decide (p k' < p k) || (decide (p k = p k') && decide (k < k'))

theorem strictTotal_greaterThen (p : Fin n → EReal) : StrictTotalBefore (greaterThen p) :=
  StrictTotalBefore.of_key_then_position (fun x y : EReal => decide (y < x)) p (by simp)
    (fun a b c h h' => by simp only [decide_eq_true_eq] at *; exact h'.trans h)
    (fun a b => by simp only [decide_eq_true_eq]; rcases lt_trichotomy a b with h | h | h <;> simp [h])

/-- The sort puts the two positions first. -/
theorem sortedFrom_top2 (p : Fin 64 → EReal) {a b : Fin 64} (h : IsTop2 p a b) :
    sortedFrom (greater p) 0 = a ∧ sortedFrom (greater p) 1 = b := by
  have e : sortedFrom (greater p) = sortedFrom (greaterThen p) := sortedFrom_congr_later _ _ fun x y hxy => by
    have : ¬ y < x := not_lt.mpr hxy.le
    simp [greater, greaterThen, this]
  have key := (strictTotal_greaterThen p).sortedFrom_eq_of_prefix (k := 2) (by decide) ![a, b]
    (by
      intro i j hij
      have hne : a ≠ b := fun e => h.2.1 e.symm
      match i, j, hij with
      | 0, 0, _ => rfl
      | 1, 1, _ => rfl
      | 0, 1, hij => exact absurd hij hne
      | 1, 0, hij => exact absurd hij.symm hne)
    (by
      intro i j hij
      match i, j, hij with
      | 0, 1, _ =>
        show (decide (p a < p b) || (decide (p b = p a) && decide (b < a))) = false
        rcases h.1.2 b trivial with h1 | h1
        · simp [h1.not_gt, h1.ne]
        · simp [h1.1, h1.2]
      | 0, 0, h0 => exact absurd h0 (lt_irrefl _)
      | 1, 0, h0 => exact absurd h0 (by decide)
      | 1, 1, h0 => exact absurd h0 (lt_irrefl _))
    (by
      intro i q hq
      have hqa : q ≠ a := fun e => hq 0 e.symm
      have hqb : q ≠ b := fun e => hq 1 e.symm
      match i with
      | 0 =>
        show (decide (p a < p q) || (decide (p q = p a) && decide (q < a))) = false
        rcases h.1.2 q trivial with h1 | h1
        · simp [h1.not_gt, h1.ne]
        · simp [h1.1, h1.2]
      | 1 =>
        show (decide (p b < p q) || (decide (p q = p b) && decide (q < b))) = false
        rcases h.2.2 q hqa with h1 | h1
        · simp [h1.not_gt, h1.ne]
        · simp [h1.1, h1.2])
  rw [e]
  exact ⟨key 0, key 1⟩

/-! ## A maximum, then the least position reaching it -/

/-- The maximum over all positions, folded from the least number, is the number at the first largest. -/
theorem fold_max {P : Fin n → Prop} {p q : Fin n → EReal} {a : Fin n} (h : FirstMax P p a) (hin : q a = p a)
    (hq : ∀ k, q k ≤ p a) : Finset.univ.fold max ⊥ q = p a := by
  refine le_antisymm ?_ ?_
  · rw [Finset.fold_max_le]; exact ⟨bot_le, fun k _ => hq k⟩
  · rw [Finset.le_fold_max]; exact Or.inr ⟨a, Finset.mem_univ _, hin.ge⟩

theorem minsi_toInt (x y : BitVec 32) : (IntOp.minsi x y).toInt = min x.toInt y.toInt := by
  unfold IntOp.minsi
  by_cases h : x.toInt < y.toInt <;> simp [BitVec.slt, BitVec.sle, h] <;> omega

/-- The least word over all positions, each the position's number where `Q` holds and 64 elsewhere, is the first position of which `Q` holds. -/
theorem fold_minsi (f : Fin 64 → BitVec 32) (Q : Fin 64 → Prop) (hf : ∀ k, Q k → f k = BitVec.ofNat 32 k.val) (hf' : ∀ k, ¬ Q k → f k = 64#32)
    (a : Fin 64) (ha : Q a) (hmin : ∀ k, Q k → a ≤ k) : Finset.univ.fold IntOp.minsi 2147483647#32 f = BitVec.ofNat 32 a.val := by
  have ofNat_toInt : ∀ k : ℕ, k ≤ 64 → (BitVec.ofNat 32 k).toInt = (k : ℤ) := by
    intro k hk
    rw [BitVec.toInt_eq_toNat_of_lt] <;> simp only [BitVec.toNat_ofNat] <;> omega
  have hk : ∀ k, (BitVec.ofNat 32 a.val).toInt ≤ (f k).toInt := by
    intro k
    by_cases hQ : Q k
    · rw [hf k hQ, ofNat_toInt _ (by omega), ofNat_toInt _ (by omega)]
      have := hmin k hQ
      exact_mod_cast this
    · rw [hf' k hQ, ofNat_toInt _ (by omega), show (64#32).toInt = 64 from rfl]
      omega
  apply BitVec.eq_of_toInt_eq
  rw [← Finset.fold_hom (op := IntOp.minsi) (op' := min) (m := BitVec.toInt) (fun x y => minsi_toInt x y)]
  refine le_antisymm ?_ ?_
  · rw [Finset.fold_min_le]; exact Or.inr ⟨a, Finset.mem_univ _, by rw [hf a ha]⟩
  · rw [Finset.le_fold_min]
    refine ⟨?_, fun k _ => hk k⟩
    rw [ofNat_toInt _ (by omega), show (2147483647#32).toInt = 2147483647 from rfl]
    omega

end Cert.Proof.Rank

end
-- ==== Proof.KernelRows.lean ====
/-
  What the two TensorCore kernels write, row by row: the clamped logits, and of their clamped softmax the two largest, divided by their sum, and
  the two experts.
-/
module

public import proofs.«01_k».proof.Proof.Setup
public import proofs.«01_k».proof.Proof.Row
public import proofs.«01_k».proof.Proof.Rank
public import Idealize.ShloMosaic.Lib.Pointwise

@[expose] public section

set_option maxRecDepth 16384

noncomputable section

namespace Cert.Proof.Rows

open Cert.KernelIdeal Cert.KernelIdeal.Gen
open Idealize.ShloMosaic
open Cert.Proof.Row Cert.Proof.Rank

/-- The first kernel's logits. -/
theorem k0_pay1_at (x : Vec Ideal S2048x2048 .f32) (w b : Vec Ideal S1x2048 .f32) (g : Vec Ideal S2048x64 .f32) (i : Fin 2048) (e : Fin 64) :
    k0_pay1 x w b g (ix2 i e) = logit (fun k => x (ix2 i k)) (fun k => w (ix2 0 k)) (fun k => b (ix2 0 k)) (fun k e => g (ix2 k e)) e := by
  pointwise [k0_pay1]
  rfl

/-- The second kernel's logits. -/
theorem k2_pay1_at (x : Vec Ideal S2048x2048 .f32) (w b : Vec Ideal S1x2048 .f32) (g : Vec Ideal S2048x64 .f32) (i : Fin 2048) (e : Fin 64) :
    k2_pay1 x w b g (ix2 i e) = logit (fun k => x (ix2 i k)) (fun k => w (ix2 0 k)) (fun k => b (ix2 0 k)) (fun k e => g (ix2 k e)) e := by
  pointwise [k2_pay1]
  rfl

variable (l : FVec Ideal S2048x64 .f32) (i : Fin 2048)

/-- Their clamped softmax. -/
theorem k2_pay2_at (e : Fin 64) : k2_pay2 l (ix2 i e) = prob (fun e => l (ix2 i e)) e := by
  pointwise [k2_pay2]
  rw [bot_eq]
  rfl

section Ranked
variable {a b : Fin 64} (h : IsTop2 (prob fun e => l (ix2 i e)) a b)
include h

/-- The largest, -/
theorem k2_pay3_at : k2_pay3 l (ix2 i 0) = prob (fun e => l (ix2 i e)) a := by
  pointwise [k2_pay3]
  rw [bot_eq]
  simp only [k2_pay2_at]
  exact fold_max h.1 rfl fun k => h.1.le k trivial

/-- and its expert. -/
theorem k2_pay4_at : k2_pay4 l (ix2 i 0) = BitVec.ofNat 32 a.val := by
  pointwise [k2_pay4]
  simp only [k2_pay2_at, k2_pay3_at l i h]
  refine fold_minsi _ (fun k => prob (fun e => l (ix2 i e)) k = prob (fun e => l (ix2 i e)) a) (fun k hk => if_pos hk) (fun k hk => if_neg hk) a rfl
    fun k hk => ?_
  rcases h.1.2 k trivial with h1 | h1
  · exact absurd hk h1.ne
  · exact h1.2

/-- The softmax with that expert's taken out. -/
theorem k2_pay5_at (e : Fin 64) :
    k2_pay5 l (ix2 i e) = if e = a then Ideal.ofBits .f32 0xBF800000#32 else prob (fun e => l (ix2 i e)) e := by
  pointwise [k2_pay5]
  simp only [k2_pay2_at, k2_pay4_at l i h]
  have hiff : (BitVec.ofNat 32 e.val = BitVec.ofNat 32 a.val) ↔ e = a := by
    constructor
    · intro hh
      have := congrArg BitVec.toNat hh
      simp only [BitVec.toNat_ofNat] at this
      exact Fin.ext (by omega)
    · rintro rfl; rfl
  by_cases hh : e = a
  · subst hh; simp [Scalar.select, IntOp.cmpi]
  · have hn : ¬ BitVec.ofNat 32 e.val = BitVec.ofNat 32 a.val := fun q => hh (hiff.mp q)
    rw [if_neg hh]
    have hb : (BitVec.ofNat 32 e.val == BitVec.ofNat 32 a.val) = false := by simpa using hn
    simp only [Scalar.select, IntOp.cmpi, hb]
    rfl

/-- The second largest, -/
theorem k2_pay6_at : k2_pay6 l (ix2 i 0) = prob (fun e => l (ix2 i e)) b := by
  pointwise [k2_pay6]
  rw [bot_eq]
  simp only [k2_pay5_at l i h]
  refine fold_max h.2 (if_neg h.2.1) fun k => ?_
  by_cases hk : k = a
  · rw [if_pos hk]; exact (negOne_lt_prob _ _).le
  · rw [if_neg hk]; exact h.2.le k hk

/-- The pair of probabilities, each divided by the sum, -/
theorem k2_pay7_at : k2_pay7 l (ix2 i 0) = Ideal.div (prob (fun e => l (ix2 i e)) a) (max (prob (fun e => l (ix2 i e)) a + prob (fun e => l (ix2 i e)) b) eps)
    ∧ k2_pay7 l (ix2 i 1) = Ideal.div (prob (fun e => l (ix2 i e)) b) (max (prob (fun e => l (ix2 i e)) a + prob (fun e => l (ix2 i e)) b) eps) := by
  constructor
  · pointwise [k2_pay7]
    rw [k2_pay3_at l i h, k2_pay6_at l i h]
  · pointwise [k2_pay7]
    rw [k2_pay3_at l i h, k2_pay6_at l i h]

/-- and the pair of experts. -/
theorem k2_pay8_at : k2_pay8 l (ix2 i 0) = BitVec.ofNat 32 a.val ∧ k2_pay8 l (ix2 i 1) = BitVec.ofNat 32 b.val := by
  constructor
  · pointwise [k2_pay8]
    exact k2_pay4_at l i h
  · pointwise [k2_pay8]
    simp only [k2_pay5_at l i h, k2_pay6_at l i h]
    have hneg : ∀ k, k = a → ¬ (if k = a then Ideal.ofBits .f32 0xBF800000#32 else prob (fun e => l (ix2 i e)) k) = prob (fun e => l (ix2 i e)) b :=
      fun k hk => by rw [if_pos hk]; exact (negOne_lt_prob _ _).ne
    refine fold_minsi _ (fun k => (if k = a then Ideal.ofBits .f32 0xBF800000#32 else prob (fun e => l (ix2 i e)) k) = prob (fun e => l (ix2 i e)) b)
      (fun k hk => if_pos hk) (fun k hk => if_neg hk) b (if_neg h.2.1) fun k hk => ?_
    have hka : k ≠ a := fun e => hneg k e hk
    rw [if_neg hka] at hk
    rcases h.2.2 k hka with h1 | h1
    · exact absurd hk h1.ne
    · exact h1.2

end Ranked

end Cert.Proof.Rows

end
-- ==== Proof.Pair.lean ====
/-
  A row's results as one function of its logits: the experts of the two largest clamped softmax values, and those values divided by their sum.
-/
module

public import proofs.«01_k».proof.Proof.Row
public import proofs.«01_k».proof.Proof.Rank

@[expose] public section

noncomputable section

namespace Cert.Proof.Row

open Idealize.ShloMosaic
open Cert.Proof.Rank

/-- The expert of the largest clamped softmax value of a row with logits `l`, -/
def best (l : Fin 64 → EReal) : Fin 64 := (exists_isTop2 (prob l)).choose
/-- and of the second largest. -/
def next (l : Fin 64 → EReal) : Fin 64 := (exists_isTop2 (prob l)).choose_spec.choose

/-- The row's two experts, -/
def pick (l : Fin 64 → EReal) (c : Fin 2) : Fin 64 := if c = 0 then best l else next l
/-- as the programs write them, -/
def pairPick (l : Fin 64 → EReal) (c : Fin 2) : BitVec 32 := BitVec.ofNat 32 (pick l c).val
/-- and its two probabilities. -/
def pairProb (l : Fin 64 → EReal) (c : Fin 2) : EReal := Ideal.div (prob l (pick l c)) (max (prob l (best l) + prob l (next l)) eps)

theorem isTop2_best (l : Fin 64 → EReal) : IsTop2 (prob l) (best l) (next l) := (exists_isTop2 (prob l)).choose_spec.choose_spec

theorem best_next {l : Fin 64 → EReal} {a b : Fin 64} (h : IsTop2 (prob l) a b) : best l = a ∧ next l = b := (isTop2_best l).unique h

theorem pick_zero (l : Fin 64 → EReal) : pick l 0 = best l := if_pos rfl
theorem pick_one (l : Fin 64 → EReal) : pick l 1 = next l := if_neg (by decide)

/-- Where the second largest softmax value is above 1e-4, the two largest logits are the two largest clamped softmax values. -/
theorem best_next_of_logits (r : Fin 64 → ℝ) {a b : Fin 64} (h : IsTop2 (fun k => (r k : EReal)) a b)
    (hb : eps < soft (fun k => (r k : EReal)) b) : best (fun k => (r k : EReal)) = a ∧ next (fun k => (r k : EReal)) = b := by
  have hab : soft (fun k => (r k : EReal)) b ≤ soft (fun k => (r k : EReal)) a := by
    rcases h.1.2 b trivial with h1 | h1
    · exact (soft_lt r h1).le
    · rw [soft_eq, soft_eq, EReal.coe_injective h1.1]
  refine best_next (h.mono (fun k hk => prob_lt r hk (lt_of_lt_of_le hb hab)) (fun k hk => prob_lt r hk hb) fun j k e => ?_)
  unfold prob
  rw [soft_eq, soft_eq, show r j = r k by exact_mod_cast e]

/-- The two largest logits are the two largest softmax values. -/
theorem isTop2_soft (r : Fin 64 → ℝ) {a b : Fin 64} (h : IsTop2 (fun k => (r k : EReal)) a b) : IsTop2 (soft fun k => (r k : EReal)) a b :=
  h.mono (fun k hk => soft_lt r hk) (fun k hk => soft_lt r hk) fun j k e => by rw [soft_eq, soft_eq, show r j = r k by exact_mod_cast e]

end Cert.Proof.Row

end
-- ==== Proof.Arrays.lean ====
/-
  What the two TensorCore kernels leave in their result arrays, row by row of the activations.
-/
module

public import proofs.«01_k».proof.Proof.TcRegion
public import proofs.«01_k».proof.Proof.KernelRows
public import proofs.«01_k».proof.Proof.Pair
public import Idealize.ShloMosaic.Lib.Pipeline.ValueKit

@[expose] public section

set_option maxRecDepth 16384

noncomputable section

namespace Cert.Proof.Rows

open Cert.KernelIdeal Cert.KernelIdeal.Gen Cert.Proof.Run
open Idealize.ShloMosaic Idealize.ShloMosaic.TcCoe
open Idealize.ShloMosaic.Pipeline (Dat)
open Cert.Proof.Row Cert.Proof.Rank

variable (W : Vals Ideal) (n : ℕ) (c : Dev nD)

/-- Row `i` of the activations, as a kernel finds them, -/
def xRow (i : Fin 16384) (k : Fin 2048) : EReal := (W c main_v0 : FVec Ideal S16384x2048 .f32) (ix2 i k)
/-- and the logits of row `i`. -/
def lRow (i : Fin 16384) (e : Fin 64) : EReal :=
  logit (xRow W c i) (fun k => (W c main_v1 : FVec Ideal S1x2048 .f32) (ix2 0 k)) (fun k => (W c main_v2 : FVec Ideal S1x2048 .f32) (ix2 0 k))
    (fun k e => (W c main_v3 : FVec Ideal S2048x64 .f32) (ix2 k e)) e

theorem idx0 : ∀ t : Fin cfg0.N, win0_0.index t = ![0, 0] ∧ win0_1.index t = ![0, 0] ∧ win0_2.index t = ![0, 0] ∧ win0_3.index t = ![0, 0]
    ∧ win0_4.index t = ![0, 0] := (by decide +kernel : ∀ t : Fin grid0.N, _)

theorem idx2 : ∀ t : Fin cfg2.N, win2_0.index t = ![t.val + 1, 0] ∧ win2_1.index t = ![0, 0] ∧ win2_2.index t = ![0, 0] ∧ win2_3.index t = ![0, 0]
    ∧ win2_4.index t = ![t.val, 0] ∧ win2_5.index t = ![t.val, 0] ∧ win2_6.index t = ![t.val, 0] ∧ t.val < 7 := (by decide +kernel : ∀ t : Fin grid2.N, _)

theorem lRow_congr {i i' : Fin 16384} {e e' : Fin 64} (hi : i.val = i'.val) (he : e.val = e'.val) : lRow W c i e = lRow W c i' e' := by
  rw [Fin.ext hi, Fin.ext he]

/-! ## The first kernel: rows 0 to 2047 -/

/-- A row of the first kernel's, among all. -/
abbrev fstRow (i : Fin 2048) : Fin 16384 := ⟨i.val, by omega⟩

theorem blk0_0_at (t : Fin cfg0.N) (i k : Fin 2048) : blk0 W c 0 t (ix2 i k) = xRow W c (fstRow i) k := by
  unfold xRow
  blk_ext [blk0, idx0 t]
theorem blk0_1_at (t : Fin cfg0.N) (k : Fin 2048) : blk0 W c 1 t (ix2 0 k) = (W c main_v1 : FVec Ideal S1x2048 .f32) (ix2 0 k) := by
  blk_ext [blk0, idx0 t]
theorem blk0_2_at (t : Fin cfg0.N) (k : Fin 2048) : blk0 W c 2 t (ix2 0 k) = (W c main_v2 : FVec Ideal S1x2048 .f32) (ix2 0 k) := by
  blk_ext [blk0, idx0 t]
theorem blk0_3_at (t : Fin cfg0.N) (k : Fin 2048) (e : Fin 64) : blk0 W c 3 t (ix2 k e) = (W c main_v3 : FVec Ideal S2048x64 .f32) (ix2 k e) := by
  blk_ext [blk0, idx0 t]

/-- Its block of logits, -/
theorem out0_at (t : Fin cfg0.N) (i : Fin 2048) (e : Fin 64) : out0 W c t (ix2 i e) = lRow W c (fstRow i) e := by
  refine (k0_pay1_at _ _ _ _ i e).trans ?_
  unfold lRow
  congr 1
  · funext k; exact blk0_0_at W c t i k
  · funext k; exact blk0_1_at W c t k
  · funext k; exact blk0_2_at W c t k
  · funext k e; exact blk0_3_at W c t k e

/-- and its array. -/
theorem arr0 : (dat0 W n c).arrAt 4 cfg0.N = (fun j : S2048x64.Idx => lRow W c (fstRow (j 0)) (j 1)) := by
  refine (dat0 W n c).arrAt_eq_of_covers 4 _ (by decide +kernel) fun t _ y => ?_
  blk_simp
  refine (show (dat0 W n c).after 4 t y = out0 W c t (ix2 (y 0) (y 1)) from congrArg (out0 W c t) (eq_ix2 y)).trans ((out0_at W c t _ _).trans ?_)
  refine lRow_congr W c ?_ ?_
  · blk_simp [fstRow, idx0 t]
  · blk_simp [idx0 t]

/-! ## The second kernel: rows 2048 to 16383 -/

/-- Row `i` of the second kernel's point `t`, among all, -/
abbrev sndRow (t : Fin cfg2.N) (i : Fin 2048) : Fin 16384 := ⟨(t.val + 1) * 2048 + i.val, by have := (idx2 t).2.2.2.2.2.2.2; omega⟩
/-- and row `i` of its arrays, among all. -/
abbrev laterRow (i : Fin 14336) : Fin 16384 := ⟨i.val + 2048, by omega⟩

theorem blk2_0_at (t : Fin cfg2.N) (i k : Fin 2048) : blk2 W c 0 t (ix2 i k) = xRow W c (sndRow t i) k := by
  unfold xRow
  blk_ext [blk2, idx2 t]
theorem blk2_1_at (t : Fin cfg2.N) (k : Fin 2048) : blk2 W c 1 t (ix2 0 k) = (W c main_v1 : FVec Ideal S1x2048 .f32) (ix2 0 k) := by
  blk_ext [blk2, idx2 t]
theorem blk2_2_at (t : Fin cfg2.N) (k : Fin 2048) : blk2 W c 2 t (ix2 0 k) = (W c main_v2 : FVec Ideal S1x2048 .f32) (ix2 0 k) := by
  blk_ext [blk2, idx2 t]
theorem blk2_3_at (t : Fin cfg2.N) (k : Fin 2048) (e : Fin 64) : blk2 W c 3 t (ix2 k e) = (W c main_v3 : FVec Ideal S2048x64 .f32) (ix2 k e) := by
  blk_ext [blk2, idx2 t]

/-- Its block of logits, -/
theorem out2_at (t : Fin cfg2.N) (i : Fin 2048) (e : Fin 64) : out2 W c t (ix2 i e) = lRow W c (sndRow t i) e := by
  refine (k2_pay1_at _ _ _ _ i e).trans ?_
  unfold lRow
  congr 1
  · funext k; exact blk2_0_at W c t i k
  · funext k; exact blk2_1_at W c t k
  · funext k; exact blk2_2_at W c t k
  · funext k e; exact blk2_3_at W c t k e

theorem fin2_cases {P : Fin 2 → Prop} (h0 : P 0) (h1 : P 1) (q : Fin 2) : P q := by
  match q with
  | 0 => exact h0
  | 1 => exact h1

/-- of probabilities, -/
theorem probs2_at (t : Fin cfg2.N) (i : Fin 2048) (q : Fin 2) : k2_pay7 (out2 W c t) (ix2 i q) = pairProb (lRow W c (sndRow t i)) q := by
  have e : (fun e => out2 W c t (ix2 i e)) = lRow W c (sndRow t i) := funext fun e => out2_at W c t i e
  have h := k2_pay7_at (out2 W c t) i (a := best (lRow W c (sndRow t i))) (b := next (lRow W c (sndRow t i))) (by rw [e]; exact isTop2_best _)
  rw [e] at h
  refine fin2_cases (P := fun q => k2_pay7 (out2 W c t) (ix2 i q) = pairProb (lRow W c (sndRow t i)) q) ?_ ?_ q
  · unfold pairProb; rw [pick_zero]; exact h.1
  · unfold pairProb; rw [pick_one]; exact h.2

/-- and of experts; -/
theorem picks2_at (t : Fin cfg2.N) (i : Fin 2048) (q : Fin 2) : k2_pay8 (out2 W c t) (ix2 i q) = pairPick (lRow W c (sndRow t i)) q := by
  have e : (fun e => out2 W c t (ix2 i e)) = lRow W c (sndRow t i) := funext fun e => out2_at W c t i e
  have h := k2_pay8_at (out2 W c t) i (a := best (lRow W c (sndRow t i))) (b := next (lRow W c (sndRow t i))) (by rw [e]; exact isTop2_best _)
  refine fin2_cases (P := fun q => k2_pay8 (out2 W c t) (ix2 i q) = pairPick (lRow W c (sndRow t i)) q) ?_ ?_ q
  · unfold pairPick; rw [pick_zero]; exact h.1
  · unfold pairPick; rw [pick_one]; exact h.2

/-- its array of logits, -/
theorem arr2_4 : (dat2 W n c).arrAt 4 cfg2.N = (fun j : S14336x64.Idx => lRow W c (laterRow (j 0)) (j 1)) := by
  refine (dat2 W n c).arrAt_eq_of_covers 4 _ (by decide +kernel) fun t _ y => ?_
  blk_simp
  refine (show (dat2 W n c).after 4 t y = out2 W c t (ix2 (y 0) (y 1)) from congrArg (out2 W c t) (eq_ix2 y)).trans ((out2_at W c t _ _).trans ?_)
  refine lRow_congr W c ?_ ?_
  · blk_simp [sndRow, laterRow, idx2 t]
    exact (by omega : ∀ a b : ℕ, (a + 1) * 2048 + b = a * 2048 + b + 2048) _ _
  · blk_simp [idx2 t]

theorem pairProb_congr {i i' : Fin 16384} {q q' : Fin 2} (hi : i.val = i'.val) (hq : q.val = q'.val) :
    pairProb (lRow W c i) q = pairProb (lRow W c i') q' := by rw [Fin.ext hi, Fin.ext hq]
theorem pairPick_congr {i i' : Fin 16384} {q q' : Fin 2} (hi : i.val = i'.val) (hq : q.val = q'.val) :
    pairPick (lRow W c i) q = pairPick (lRow W c i') q' := by rw [Fin.ext hi, Fin.ext hq]

/-- of probabilities, -/
theorem arr2_5 : (dat2 W n c).arrAt 5 cfg2.N = (fun j : S14336x2.Idx => pairProb (lRow W c (laterRow (j 0))) (j 1)) := by
  refine (dat2 W n c).arrAt_eq_of_covers 5 _ (by decide +kernel) fun t _ y => ?_
  blk_simp
  refine (show (dat2 W n c).after 5 t y = k2_pay7 (out2 W c t) (ix2 (y 0) (y 1)) from congrArg (k2_pay7 (out2 W c t)) (eq_ix2 y)).trans
    ((probs2_at W c t _ _).trans ?_)
  refine pairProb_congr W c ?_ ?_
  · blk_simp [sndRow, laterRow, idx2 t]
    exact (by omega : ∀ a b : ℕ, (a + 1) * 2048 + b = a * 2048 + b + 2048) _ _
  · blk_simp [idx2 t]

/-- and of experts. -/
theorem arr2_6 : (dat2 W n c).arrAt 6 cfg2.N = (fun j : S14336x2.Idx => pairPick (lRow W c (laterRow (j 0))) (j 1)) := by
  refine (dat2 W n c).arrAt_eq_of_covers 6 _ (by decide +kernel) fun t _ y => ?_
  blk_simp
  refine (show (dat2 W n c).after 6 t y = k2_pay8 (out2 W c t) (ix2 (y 0) (y 1)) from congrArg (k2_pay8 (out2 W c t)) (eq_ix2 y)).trans
    ((picks2_at W c t _ _).trans ?_)
  refine pairPick_congr W c ?_ ?_
  · blk_simp [sndRow, laterRow, idx2 t]
    exact (by omega : ∀ a b : ℕ, (a + 1) * 2048 + b = a * 2048 + b + 2048) _ _
  · blk_simp [idx2 t]

end Cert.Proof.Rows

end
-- ==== Proof.TileRows.lean ====
/-
  What the SparseCore call writes, row by row: going through a row's 64 logits in order and keeping the two largest so far ends with the two
  largest, equal ones in the order of their positions; and the pair of results is the two clamped softmax values divided by their sum.
-/
module

public import proofs.«01_k».proof.Proof.Task
public import proofs.«01_k».proof.Proof.Row
public import proofs.«01_k».proof.Proof.Rank
public import Idealize.ShloMosaic.Lib.Pointwise

@[expose] public section

noncomputable section

namespace Cert.Proof.Rows

open Cert.KernelIdeal Cert.KernelIdeal.Gen Cert.Proof.Run
open Idealize.ShloMosaic
open Cert.Proof.Row Cert.Proof.Rank

/-- After `n` of the logits `l`, two of them at least: `a` and `b` are the places of the two largest. -/
def Two (l : ℕ → EReal) (n a b : ℕ) : Prop :=
  a < n ∧ b < n ∧ b ≠ a ∧ (∀ k, k < n → l k < l a ∨ (l k = l a ∧ a ≤ k)) ∧ ∀ k, k < n → k ≠ a → l k < l b ∨ (l k = l b ∧ b ≤ k)

/-- What the running state of a row holds after `n` of the logits `l`. -/
def Seen (l : ℕ → EReal) (n : ℕ) (m1 m2 : EReal) (i1 i2 : BitVec 32) (z : EReal) : Prop :=
  z = ∑ k ∈ Finset.range n, Ideal.exp (l k)
  ∧ ((n = 0 ∧ m1 = ⊥ ∧ m2 = ⊥) ∨ (n = 1 ∧ m1 = l 0 ∧ i1 = 0#32 ∧ m2 = ⊥)
    ∨ ∃ a b, Two l n a b ∧ m1 = l a ∧ m2 = l b ∧ i1 = BitVec.ofNat 32 a ∧ i2 = BitVec.ofNat 32 b)

/-- A new logit larger than the largest comes first and the largest second, -/
theorem Two.first {l : ℕ → EReal} {n a b : ℕ} (h : Two l n a b) (hx : l a < l n) : Two l (n + 1) n a := by
  obtain ⟨ha, hb, hne, h1, h2⟩ := h
  have hle : ∀ k, k < n → l k ≤ l a := fun k hk => (h1 k hk).elim (fun h => h.le) fun h => h.1.le
  refine ⟨by omega, by omega, by omega, fun k hk => ?_, fun k hk hkn => h1 k (by omega)⟩
  rcases Nat.lt_succ_iff_lt_or_eq.mp hk with hk | rfl
  · exact Or.inl (lt_of_le_of_lt (hle k hk) hx)
  · exact Or.inr ⟨rfl, le_rfl⟩

/-- one larger only than the second comes second, -/
theorem Two.second {l : ℕ → EReal} {n a b : ℕ} (h : Two l n a b) (hx : ¬ l a < l n) (hy : l b < l n) : Two l (n + 1) a n := by
  obtain ⟨ha, hb, hne, h1, h2⟩ := h
  have hle : ∀ k, k < n → k ≠ a → l k ≤ l b := fun k hk hka => (h2 k hk hka).elim (fun h => h.le) fun h => h.1.le
  refine ⟨by omega, by omega, by omega, fun k hk => ?_, fun k hk hka => ?_⟩
  · rcases Nat.lt_succ_iff_lt_or_eq.mp hk with hk | rfl
    · exact h1 k hk
    · exact (lt_or_eq_of_le (not_lt.mp hx)).imp id fun e => ⟨e, ha.le⟩
  · rcases Nat.lt_succ_iff_lt_or_eq.mp hk with hk | rfl
    · exact Or.inl (lt_of_le_of_lt (hle k hk hka) hy)
    · exact Or.inr ⟨rfl, le_rfl⟩

/-- and any other changes nothing. -/
theorem Two.none {l : ℕ → EReal} {n a b : ℕ} (h : Two l n a b) (hx : ¬ l a < l n) (hy : ¬ l b < l n) : Two l (n + 1) a b := by
  obtain ⟨ha, hb, hne, h1, h2⟩ := h
  refine ⟨by omega, by omega, hne, fun k hk => ?_, fun k hk hka => ?_⟩
  · rcases Nat.lt_succ_iff_lt_or_eq.mp hk with hk | rfl
    · exact h1 k hk
    · exact (lt_or_eq_of_le (not_lt.mp hx)).imp id fun e => ⟨e, ha.le⟩
  · rcases Nat.lt_succ_iff_lt_or_eq.mp hk with hk | rfl
    · exact h2 k hk hka
    · exact (lt_or_eq_of_le (not_lt.mp hy)).imp id fun e => ⟨e, hb.le⟩

/-- One more logit. -/
theorem Seen.step {l : ℕ → EReal} {n : ℕ} {m1 m2 : EReal} {i1 i2 : BitVec 32} {z : EReal} (h : Seen l n m1 m2 i1 i2 z) (hl : ∀ k, k ≤ n → l k ≠ ⊥) :
    Seen l (n + 1) (if m1 < l n then l n else m1) (if m1 < l n then m1 else if m2 < l n then l n else m2)
      (if m1 < l n then BitVec.ofNat 32 n else i1) (if m1 < l n then i1 else if m2 < l n then BitVec.ofNat 32 n else i2) (z + Ideal.exp (l n)) := by
  obtain ⟨hz, h⟩ := h
  refine ⟨by rw [Finset.sum_range_succ, hz], ?_⟩
  rcases h with ⟨rfl, rfl, rfl⟩ | ⟨rfl, rfl, rfl, rfl⟩ | ⟨a, b, ht, rfl, rfl, rfl, rfl⟩
  · have h0 : (⊥ : EReal) < l 0 := bot_lt_iff_ne_bot.mpr (hl 0 le_rfl)
    refine Or.inr (Or.inl ⟨rfl, ?_, ?_, ?_⟩)
    · rw [if_pos h0]
    · rw [if_pos h0]
    · rw [if_pos h0]
  · right; right
    by_cases hx : l 0 < l 1
    · refine ⟨1, 0, ⟨by omega, by omega, by omega, fun k hk => ?_, fun k hk hk1 => ?_⟩, ?_⟩
      · rcases (show k = 0 ∨ k = 1 by omega) with rfl | rfl
        · exact Or.inl hx
        · exact Or.inr ⟨rfl, le_rfl⟩
      · obtain rfl : k = 0 := by omega
        exact Or.inr ⟨rfl, le_rfl⟩
      · simp [hx]
    · have h1 : (⊥ : EReal) < l 1 := bot_lt_iff_ne_bot.mpr (hl 1 le_rfl)
      refine ⟨0, 1, ⟨by omega, by omega, by omega, fun k hk => ?_, fun k hk hk1 => ?_⟩, ?_⟩
      · rcases (show k = 0 ∨ k = 1 by omega) with rfl | rfl
        · exact Or.inr ⟨rfl, le_rfl⟩
        · exact (lt_or_eq_of_le (not_lt.mp hx)).imp id fun e => ⟨e, by omega⟩
      · obtain rfl : k = 1 := by omega
        exact Or.inr ⟨rfl, le_rfl⟩
      · simp [hx, h1]
  · right; right
    by_cases hx : l a < l n
    · exact ⟨n, a, ht.first hx, by simp [hx]⟩
    · by_cases hy : l b < l n
      · exact ⟨a, n, ht.second hx hy, by simp [hx, hy]⟩
      · exact ⟨a, b, ht.none hx hy, by simp [hx, hy]⟩

theorem select_gt {α : Type} (x m : EReal) (u v : α) : Scalar.select (Ideal.cmp .ogt x m) u v = if m < x then u else v := by
  by_cases h : m < x <;> simp [Scalar.select, Ideal.cmp, h]

/-- The tile's state is such a running state in every lane. -/
theorem seen_st (f : Vec Ideal S4096 .f32) (v10 : IVec S16 32) (hv : InRange v10) (x : S16.Idx) (hl : ∀ k, k < 64 → ld f v10 hv k x ≠ (⊥ : EReal)) (n : ℕ) (hn : n ≤ 64) :
    Seen (fun k => ld f v10 hv k x) n ((st f v10 hv n).m1 x) ((st f v10 hv n).m2 x) ((st f v10 hv n).i1 x) ((st f v10 hv n).i2 x) ((st f v10 hv n).z x) := by
  induction n with
  | zero =>
    refine ⟨?_, Or.inl ⟨rfl, ?_, ?_⟩⟩
    · rw [Finset.range_zero, Finset.sum_empty]; exact zero_eq
    · exact bot_eq
    · exact bot_eq
  | succ n ih =>
    have h := (ih (by omega)).step fun k hk => hl k (by omega)
    simp only [← select_gt] at h
    exact h

/-- A trip's lane ends with the two largest of its 64 logits and the sum of their exponentials. -/
theorem trip_at (f : Vec Ideal S4096 .f32) (t : Fin k1_t1_loop.trips) (x : S16.Idx) (r : Fin 64 → ℝ)
    (hr : ∀ e : Fin 64, ld f (rowOff t) (rowOff_inRange t) e.val x = (r e : EReal)) :
    ∃ a b : Fin 64, IsTop2 (fun e => (r e : EReal)) a b ∧ (trip f t).m1 x = (r a : EReal) ∧ (trip f t).m2 x = (r b : EReal)
      ∧ (trip f t).i1 x = BitVec.ofNat 32 a.val ∧ (trip f t).i2 x = BitVec.ofNat 32 b.val
      ∧ (trip f t).z x = ∑ k, Ideal.exp (r k : EReal) := by
  obtain ⟨hz, h⟩ := seen_st f (rowOff t) (rowOff_inRange t) x (fun k hk => by rw [hr ⟨k, hk⟩]; exact EReal.coe_ne_bot _) 64 le_rfl
  rcases h with ⟨h, _⟩ | ⟨h, _⟩ | ⟨a, b, ⟨ha, hb, hne, h1, h2⟩, e1, e2, e3, e4⟩
  · exact absurd h (by decide)
  · exact absurd h (by decide)
  have ea : ld f (rowOff t) (rowOff_inRange t) a x = (r ⟨a, ha⟩ : EReal) := hr ⟨a, ha⟩
  have eb : ld f (rowOff t) (rowOff_inRange t) b x = (r ⟨b, hb⟩ : EReal) := hr ⟨b, hb⟩
  refine ⟨⟨a, ha⟩, ⟨b, hb⟩, ⟨⟨trivial, fun k _ => ?_⟩, ⟨fun e => hne (congrArg Fin.val e), fun k hk => ?_⟩⟩, e1.trans (hr ⟨a, ha⟩), e2.trans (hr ⟨b, hb⟩), e3, e4, ?_⟩
  · have := h1 k.val k.isLt
    simp only [hr, ea] at this
    exact this
  · have := h2 k.val k.isLt fun e => hk (Fin.ext e)
    simp only [hr, eb] at this
    exact this
  · refine hz.trans ?_
    rw [Finset.sum_range]
    exact Finset.sum_congr rfl fun k _ => congrArg Ideal.exp (hr k)

theorem clipped_at (m : Vec Ideal S16 .f32) (z : FVec Ideal S16 .f32) (x : S16.Idx) :
    clipped m z x = clamp eps 1 (Ideal.div (Ideal.exp (m x)) (z x)) := by
  unfold clamp
  rw [← Ideal.ofBits_one_f32]
  rfl

/-- The logit a lane gathers. -/
theorem ld_at (f : Vec Ideal S4096 .f32) (t : Fin k1_t1_loop.trips) (e : ℕ) (he : e < 64) (x : S16.Idx) (h : (16 * t.val + (x 0).val) * 64 + e < 4096) :
    ld f (rowOff t) (rowOff_inRange t) e x = f (ix1 (⟨(16 * t.val + (x 0).val) * 64 + e, h⟩ : Fin 4096)) := by
  unfold ld
  rw [dif_pos he]
  show f _ = f _
  congr 1
  funext a
  obtain rfl : a = 0 := Subsingleton.elim _ _
  exact Fin.ext (rowOff_add_toNat t e he x)

/-- Row `r` of the call's results, its row of the flat logits being the reals `l`. -/
theorem sc_at (lg : Vec Ideal S131072 .f32) (r : Fin 2048) (l : Fin 64 → ℝ)
    (hl : ∀ e : Fin 64, lg (ix1 (⟨r.val * 64 + e.val, by omega⟩ : Fin 131072)) = (l e : EReal)) :
    ∃ a b : Fin 64, IsTop2 (fun e => (l e : EReal)) a b
      ∧ scProbs lg (ix1 (⟨r.val * 2, by omega⟩ : Fin 4096)) = Ideal.div (prob (fun e => (l e : EReal)) a) (max (prob (fun e => (l e : EReal)) a + prob (fun e => (l e : EReal)) b) eps)
      ∧ scProbs lg (ix1 (⟨r.val * 2 + 1, by omega⟩ : Fin 4096)) = Ideal.div (prob (fun e => (l e : EReal)) b) (max (prob (fun e => (l e : EReal)) a + prob (fun e => (l e : EReal)) b) eps)
      ∧ scPicks lg (ix1 (⟨r.val * 2, by omega⟩ : Fin 4096)) = BitVec.ofNat 32 a.val
      ∧ scPicks lg (ix1 (⟨r.val * 2 + 1, by omega⟩ : Fin 4096)) = BitVec.ofNat 32 b.val := by
  have hr := r.isLt
  let w : Fin 32 := ⟨r.val / 64, by omega⟩
  let t : Fin k1_t1_loop.trips := ⟨r.val % 64 / 16, by rw [trips_eq]; omega⟩
  let x : S16.Idx := laneOf (r.val % 16) (by omega)
  have hw : ∀ c : Fin 2, workerOf (ix1 (⟨r.val * 2 + c.val, by omega⟩ : Fin 4096)) = w := fun c => Fin.ext (by
    show (r.val * 2 + c.val) / 128 = r.val / 64; omega)
  have ht : ∀ c : Fin 2, pairTrip (placeOf (ix1 (⟨r.val * 2 + c.val, by omega⟩ : Fin 4096))) = t := fun c => Fin.ext (by
    show (r.val * 2 + c.val) % 128 / 32 = r.val % 64 / 16; omega)
  have hx : ∀ c : Fin 2, pairLane (placeOf (ix1 (⟨r.val * 2 + c.val, by omega⟩ : Fin 4096))) = x := fun c => by
    show laneOf _ _ = laneOf _ _
    congr 1
    show (r.val * 2 + c.val) % 128 / 2 % 16 = r.val % 16; omega
  have hm : ∀ c : Fin 2, (placeOf (ix1 (⟨r.val * 2 + c.val, by omega⟩ : Fin 4096)) 0).val % 2 = c.val := fun c => by
    show (r.val * 2 + c.val) % 128 % 2 = c.val; omega
  obtain ⟨a, b, hab, e1, e2, e3, e4, e5⟩ := trip_at (rowsOf lg w) t x l fun e => by
    have he := e.isLt
    have hlt : (16 * t.val + (x 0).val) * 64 + e.val < 4096 := by
      show (16 * (r.val % 64 / 16) + r.val % 16) * 64 + e.val < 4096; omega
    rw [ld_at _ t e.val he x hlt, ← hl e]
    unfold rowsOf
    congr 1
    funext a
    obtain rfl : a = 0 := Subsingleton.elim _ _
    refine Fin.ext ?_
    show r.val / 64 * 4096 + ((16 * (r.val % 64 / 16) + r.val % 16) * 64 + e.val) = r.val * 64 + e.val
    omega
  have c1 : clipped (trip (rowsOf lg w) t).m1 (trip (rowsOf lg w) t).z x = prob (fun e => (l e : EReal)) a := by
    rw [clipped_at, e1, e5, plain_soft]; rfl
  have c2 : clipped (trip (rowsOf lg w) t).m2 (trip (rowsOf lg w) t).z x = prob (fun e => (l e : EReal)) b := by
    rw [clipped_at, e2, e5, plain_soft]; rfl
  have d : denom (trip (rowsOf lg w) t) x = max (prob (fun e => (l e : EReal)) a + prob (fun e => (l e : EReal)) b) eps := by
    rw [← c1, ← c2]; rfl
  have hm0 : (placeOf (ix1 (⟨r.val * 2 + (0 : Fin 2).val, by omega⟩ : Fin 4096)) 0).val % 2 = 0 := hm 0
  have hm1 : ¬ (placeOf (ix1 (⟨r.val * 2 + (1 : Fin 2).val, by omega⟩ : Fin 4096)) 0).val % 2 = 0 := by rw [hm 1]; decide
  refine ⟨a, b, hab, ?_, ?_, ?_, ?_⟩
  · show scProbs lg (ix1 (⟨r.val * 2 + (0 : Fin 2).val, by omega⟩ : Fin 4096)) = _
    unfold scProbs tileProbs pairs
    rw [hw 0, ht 0, hx 0, if_pos hm0, ← d, ← c1]
    rfl
  · show scProbs lg (ix1 (⟨r.val * 2 + (1 : Fin 2).val, by omega⟩ : Fin 4096)) = _
    unfold scProbs tileProbs pairs
    rw [hw 1, ht 1, hx 1, if_neg hm1, ← d, ← c2]
    rfl
  · show scPicks lg (ix1 (⟨r.val * 2 + (0 : Fin 2).val, by omega⟩ : Fin 4096)) = _
    unfold scPicks tilePicks pairs
    rw [hw 0, ht 0, hx 0, if_pos hm0]
    exact e3
  · show scPicks lg (ix1 (⟨r.val * 2 + (1 : Fin 2).val, by omega⟩ : Fin 4096)) = _
    unfold scPicks tilePicks pairs
    rw [hw 1, ht 1, hx 1, if_neg hm1]
    exact e4

end Cert.Proof.Rows

end
-- ==== Proof.Finals.lean ====
/-
  The kernel's three results, row by row: the clamped logits, and the probabilities and experts of the two largest.
-/
module

public import proofs.«01_k».proof.Proof.Frames
public import proofs.«01_k».proof.Proof.Arrays
public import proofs.«01_k».proof.Proof.TileRows

@[expose] public section

set_option maxRecDepth 16384

noncomputable section

namespace Cert.Proof.Rows

open Cert.KernelIdeal Cert.KernelIdeal.Gen Cert.Proof.Run
open Idealize.ShloMosaic Idealize.ShloMosaic.TcCoe
open Cert.Proof.Row Cert.Proof.Rank

variable (m : (ℓ : Loc nD τ sig) → Buf (Elt Ideal) ℓ) (c : Dev nD)

/-- The logits of row `i` that the program computes. -/
abbrev kRow (i : Fin 16384) (e : Fin 64) : EReal := lRow (vals (V4 m)) c i e

/-- The second kernel reads what the first read. -/
theorem later_inputs (i : Fin 16384) (e : Fin 64) : lRow (vals (V7 m)) c i e = kRow m c i e := by
  have h : ∀ b : Ref sig .tc, b ≠ main_v4 → b ≠ main_v5 → b ≠ main_v6_0 → b ≠ main_v6_1 → vals (V7 m) c b = vals (V4 m) c b :=
    fun b h4 h5 h6 h7 => (V7_keep m c h6 h7).trans (V6_keep m c h4 h5)
  unfold lRow xRow
  rw [h main_v0 (by decide) (by decide) (by decide) (by decide), h main_v1 (by decide) (by decide) (by decide) (by decide),
    h main_v2 (by decide) (by decide) (by decide) (by decide), h main_v3 (by decide) (by decide) (by decide) (by decide)]
  rfl

/-! ## The intermediate arrays -/

/-- The first kernel's logits, -/
abbrev mid4 : FVec Ideal S2048x64 .f32 := V8 m c (dr main_v4)
/-- the same in one line, -/
abbrev mid5 : FVec Ideal S131072 .f32 := V6 m c (dr main_v5)
/-- the SparseCore's probabilities -/
abbrev mid6p : FVec Ideal S4096 .f32 := V8 m c (dr main_v6_0)
/-- and experts, -/
abbrev mid6k : IVec S4096 32 := V8 m c (dr main_v6_1)
/-- the second kernel's logits, -/
abbrev mid7l : FVec Ideal S14336x64 .f32 := V8 m c (dr main_v7_0)
/-- probabilities -/
abbrev mid7p : FVec Ideal S14336x2 .f32 := V8 m c (dr main_v7_1)
/-- and experts. -/
abbrev mid7k : IVec S14336x2 32 := V8 m c (dr main_v7_2)

theorem mid4_at (i : Fin 2048) (e : Fin 64) : mid4 m c (ix2 i e) = kRow m c (fstRow i) e := by
  have h : mid4 m c = (dat0 (vals (V4 m)) 0 c).arrAt 4 cfg0.N := by
    refine (V8_keep m c (b := main_v4) (by decide) (by decide) (by decide)).trans ((V7_keep m c (by decide) (by decide)).trans ?_)
    unfold V6
    rw [StableHlo.reshape_result_ne _ _ _ _ _ _ _ (by decide)]
    exact Function.update_self _ _ _
  exact (congrFun (h.trans (arr0 (vals (V4 m)) 0 c)) (ix2 i e)).trans rfl

theorem mid5_at (i : Fin 2048) (e : Fin 64) : mid5 m c (ix1 (⟨i.val * 64 + e.val, by omega⟩ : Fin 131072)) = kRow m c (fstRow i) e := by
  have h : mid5 m c = shapeCast S131072 (mid4 m c) shapeCasts_S2048x64_S131072 := by
    refine (StableHlo.reshape_result _ _ _ _ _ _ _).trans ?_
    have e4 : V5 m c (dr main_v4) = V8 m c (dr main_v4) := by
      refine Eq.symm ((V8_keep m c (b := main_v4) (by decide) (by decide) (by decide)).trans ((V7_keep m c (by decide) (by decide)).trans ?_))
      unfold V6
      rw [StableHlo.reshape_result_ne _ _ _ _ _ _ _ (by decide)]
    funext y
    exact congrFun (congrArg (fun x : FVec Ideal S2048x64 .f32 => shapeCast S131072 x shapeCasts_S2048x64_S131072) e4) y
  rw [h]
  refine (shapeCast_apply _ _ _ (ix2 i e) ?_).trans (mid4_at m c i e)
  rw [Shape.rowMajor_val_two, Shape.rowMajor_val_one]
  rfl

/-- A place of a line of pairs. -/
abbrev place (i : Fin 2048) (q : Fin 2) : Fin 4096 := ⟨i.val * 2 + q.val, by omega⟩

/-- What the SparseCore's tiles make of a row of logits whose second largest softmax value is above 1e-4. -/
theorem sc_pair (lg : Vec Ideal S131072 .f32) (i : Fin 2048) (r : Fin 64 → ℝ)
    (hl : ∀ e : Fin 64, lg (ix1 (⟨i.val * 64 + e.val, by omega⟩ : Fin 131072)) = (r e : EReal)) {a' b' : Fin 64}
    (ht' : IsTop2 (fun e => (r e : EReal)) a' b') (hb : eps < soft (fun e => (r e : EReal)) b') (q : Fin 2) :
    scProbs (F := Ideal) lg (ix1 (place i q)) = pairProb (fun e => (r e : EReal)) q
    ∧ scPicks (F := Ideal) lg (ix1 (place i q)) = pairPick (fun e => (r e : EReal)) q := by
  obtain ⟨a, b, ht, h0, h1, h2, h3⟩ := sc_at lg i r hl
  obtain ⟨ea, eb⟩ := best_next_of_logits r ht' hb
  obtain ⟨rfl, rfl⟩ := ht.unique ht'
  have p0 : place i 0 = ⟨i.val * 2, by omega⟩ := rfl
  have p1 : place i 1 = ⟨i.val * 2 + 1, by omega⟩ := rfl
  have k0 : pick (fun e => (r e : EReal)) 0 = a := (pick_zero _).trans ea
  have k1 : pick (fun e => (r e : EReal)) 1 = b := (pick_one _).trans eb
  refine fin2_cases (P := fun q => scProbs (F := Ideal) lg (ix1 (place i q)) = pairProb (fun e => (r e : EReal)) q
    ∧ scPicks (F := Ideal) lg (ix1 (place i q)) = pairPick (fun e => (r e : EReal)) q) ?_ ?_ q
  · rw [p0, h0, h2]
    unfold pairProb pairPick
    rw [k0, ea, eb]
    exact ⟨rfl, rfl⟩
  · rw [p1, h1, h3]
    unfold pairProb pairPick
    rw [k1, ea, eb]
    exact ⟨rfl, rfl⟩

theorem mid6p_eq : mid6p m c = scProbs (F := Ideal) (mid5 m c) := by
  refine (V8_keep m c (b := main_v6_0) (by decide) (by decide) (by decide)).trans ?_
  unfold V7
  exact (Function.update_of_ne (dr_ne (by decide)) _ _).trans (Function.update_self _ _ _)

theorem mid6k_eq : mid6k m c = scPicks (F := Ideal) (mid5 m c) := by
  refine (V8_keep m c (b := main_v6_1) (by decide) (by decide) (by decide)).trans ?_
  unfold V7
  exact Function.update_self _ _ _

theorem kRow_real (i : Fin 16384) : ∃ r : Fin 64 → ℝ, kRow m c i = fun e => (r e : EReal) :=
  logit_real (xRow (vals (V4 m)) c i) (fun k => (vals (V4 m) c main_v1 : FVec Ideal S1x2048 .f32) (ix2 0 k))
    (fun k => (vals (V4 m) c main_v2 : FVec Ideal S1x2048 .f32) (ix2 0 k)) (fun k e => (vals (V4 m) c main_v3 : FVec Ideal S2048x64 .f32) (ix2 k e))

/-- What the SparseCore call leaves, row by row, where the second largest softmax value of a row is above 1e-4. -/
theorem mid6_at (i : Fin 2048) (h : ∃ b, (∃ a, IsTop2 (kRow m c (fstRow i)) a b) ∧ eps < soft (kRow m c (fstRow i)) b) (q : Fin 2) :
    mid6p m c (ix1 (place i q)) = pairProb (kRow m c (fstRow i)) q ∧ mid6k m c (ix1 (place i q)) = pairPick (kRow m c (fstRow i)) q := by
  obtain ⟨r, hk⟩ := kRow_real m c (fstRow i)
  have hl : ∀ e : Fin 64, mid5 m c (ix1 (⟨i.val * 64 + e.val, by omega⟩ : Fin 131072)) = (r e : EReal) :=
    fun e => (mid5_at m c i e).trans (congrFun hk e)
  rw [hk] at h ⊢
  obtain ⟨b, ⟨a, ht⟩, hb⟩ := h
  rw [mid6p_eq, mid6k_eq]
  exact sc_pair (mid5 m c) i r hl ht hb q

theorem mid7l_at (i : Fin 14336) (e : Fin 64) : mid7l m c (ix2 i e) = kRow m c (laterRow i) e := by
  have h : mid7l m c = (dat2 (vals (V7 m)) 1 c).arrAt 4 cfg2.N := by
    show V8 m c (dr main_v7_0) = _
    unfold V8
    exact (Function.update_of_ne (dr_ne (by decide)) _ _).trans ((Function.update_of_ne (dr_ne (by decide)) _ _).trans (Function.update_self _ _ _))
  exact (congrFun (h.trans (arr2_4 (vals (V7 m)) 1 c)) (ix2 i e)).trans (later_inputs m c _ _)

theorem mid7p_at (i : Fin 14336) (q : Fin 2) : mid7p m c (ix2 i q) = pairProb (kRow m c (laterRow i)) q := by
  have h : mid7p m c = (dat2 (vals (V7 m)) 1 c).arrAt 5 cfg2.N := by
    show V8 m c (dr main_v7_1) = _
    unfold V8
    exact (Function.update_of_ne (dr_ne (by decide)) _ _).trans (Function.update_self _ _ _)
  exact (congrFun (h.trans (arr2_5 (vals (V7 m)) 1 c)) (ix2 i q)).trans (congrArg (pairProb · q) (funext fun e => later_inputs m c _ e))

theorem mid7k_at (i : Fin 14336) (q : Fin 2) : mid7k m c (ix2 i q) = pairPick (kRow m c (laterRow i)) q := by
  have h : mid7k m c = (dat2 (vals (V7 m)) 1 c).arrAt 6 cfg2.N := by
    show V8 m c (dr main_v7_2) = _
    unfold V8
    exact Function.update_self _ _ _
  exact (congrFun (h.trans (arr2_6 (vals (V7 m)) 1 c)) (ix2 i q)).trans (congrArg (pairPick · q) (funext fun e => later_inputs m c _ e))

/-! ## The results -/

/-- Two arrays laid one after the other along the rows, read at a row of the first -/
theorem stacked_fst {α : Type} {w : ℕ} (x : (⟨2, ![2048, w]⟩ : Shape).Idx → α) (y : (⟨2, ![14336, w]⟩ : Shape).Idx → α)
    (h : Shape.Concatenates [⟨2, ![2048, w]⟩, ⟨2, ![14336, w]⟩] ⟨2, ![16384, w]⟩ 0) (i : Fin 2048) (e : Fin w) :
    concatenate ⟨2, ![16384, w]⟩ 0 [⟨_, x⟩, ⟨_, y⟩] h (ix2 (fstRow i) e) = x (ix2 i e) := by
  refine concatenate_pair_apply_left 0 x y h _ rfl _ fun b => ?_
  match b with
  | 0 => rfl
  | 1 => rfl

/-- or of the second. -/
theorem stacked_snd {α : Type} {w : ℕ} (x : (⟨2, ![2048, w]⟩ : Shape).Idx → α) (y : (⟨2, ![14336, w]⟩ : Shape).Idx → α)
    (h : Shape.Concatenates [⟨2, ![2048, w]⟩, ⟨2, ![14336, w]⟩] ⟨2, ![16384, w]⟩ 0) (i : Fin 14336) (e : Fin w) :
    concatenate ⟨2, ![16384, w]⟩ 0 [⟨_, x⟩, ⟨_, y⟩] h (ix2 (laterRow i) e) = y (ix2 i e) := by
  refine concatenate_pair_apply_right 0 x y h _ rfl rfl _ (fun b hb => ?_) ?_
  · match b with
    | 0 => exact absurd rfl hb
    | 1 => rfl
  · rfl

/-- Every row is one of the first 2048 or one of the later. -/
theorem row_cases {P : Fin 16384 → Prop} (h0 : ∀ i, P (fstRow i)) (h1 : ∀ i, P (laterRow i)) (i : Fin 16384) : P i := by
  by_cases hi : i.val < 2048
  · exact h0 ⟨i.val, hi⟩
  · have e : laterRow ⟨i.val - 2048, by omega⟩ = i := Fin.ext (Nat.sub_add_cancel (not_lt.mp hi))
    exact e ▸ h1 _

/-- The probabilities, -/
abbrev outProbs : FVec Ideal S16384x2 .f32 := V9 m c (dr main_v9)
/-- the experts -/
abbrev outPicks : IVec S16384x2 32 := V9 m c (dr main_v11)
/-- and the logits that the program returns. -/
abbrev outLogits : FVec Ideal S16384x64 .f32 := V9 m c (dr main_v12)

theorem outLogits_eq : outLogits m c = concatenate S16384x64 0 [⟨S2048x64, mid4 m c⟩, ⟨S14336x64, mid7l m c⟩] concatenates_S2048x64_S14336x64_S16384x64_d0 := by
  show V9 m c (dr main_v12) = _
  unfold V9
  rw [StableHlo.binary_result]
  rw [StableHlo.binary_result_ne _ _ _ _ _ _ _ _ (by decide : main_v4 ≠ main_v11), StableHlo.binary_result_ne _ _ _ _ _ _ _ _ (by decide : main_v7_0 ≠ main_v11)]
  rw [StableHlo.reshape_result_ne _ _ _ _ _ _ _ (by decide : main_v4 ≠ main_v10), StableHlo.reshape_result_ne _ _ _ _ _ _ _ (by decide : main_v7_0 ≠ main_v10)]
  rw [StableHlo.binary_result_ne _ _ _ _ _ _ _ _ (by decide : main_v4 ≠ main_v9), StableHlo.binary_result_ne _ _ _ _ _ _ _ _ (by decide : main_v7_0 ≠ main_v9)]
  rw [StableHlo.reshape_result_ne _ _ _ _ _ _ _ (by decide : main_v4 ≠ main_v8), StableHlo.reshape_result_ne _ _ _ _ _ _ _ (by decide : main_v7_0 ≠ main_v8)]

theorem outProbs_eq : outProbs m c = concatenate S16384x2 0 [⟨S2048x2, shapeCast S2048x2 (mid6p m c) shapeCasts_S4096_S2048x2⟩, ⟨S14336x2, mid7p m c⟩]
    concatenates_S2048x2_S14336x2_S16384x2_d0 := by
  show V9 m c (dr main_v9) = _
  unfold V9
  rw [StableHlo.binary_result_ne _ _ _ _ _ _ _ _ (by decide : main_v9 ≠ main_v12), StableHlo.binary_result_ne _ _ _ _ _ _ _ _ (by decide : main_v9 ≠ main_v11),
    StableHlo.reshape_result_ne _ _ _ _ _ _ _ (by decide : main_v9 ≠ main_v10)]
  rw [StableHlo.binary_result]
  rw [StableHlo.reshape_result_ne _ _ _ _ _ _ _ (by decide : main_v7_1 ≠ main_v8), StableHlo.reshape_result]
  rfl

theorem outPicks_eq : outPicks m c = concatenate S16384x2 0 [⟨S2048x2, shapeCast S2048x2 (mid6k m c) shapeCasts_S4096_S2048x2⟩, ⟨S14336x2, mid7k m c⟩]
    concatenates_S2048x2_S14336x2_S16384x2_d0 := by
  show V9 m c (dr main_v11) = _
  unfold V9
  rw [StableHlo.binary_result_ne _ _ _ _ _ _ _ _ (by decide : main_v11 ≠ main_v12)]
  rw [StableHlo.binary_result]
  rw [StableHlo.reshape_result_ne _ _ _ _ _ _ _ (by decide : main_v7_2 ≠ main_v10), StableHlo.reshape_result]
  rw [StableHlo.binary_result_ne _ _ _ _ _ _ _ _ (by decide : main_v7_2 ≠ main_v9), StableHlo.binary_result_ne _ _ _ _ _ _ _ _ (by decide : main_v6_1 ≠ main_v9)]
  rw [StableHlo.reshape_result_ne _ _ _ _ _ _ _ (by decide : main_v7_2 ≠ main_v8), StableHlo.reshape_result_ne _ _ _ _ _ _ _ (by decide : main_v6_1 ≠ main_v8)]
  rfl

/-- A line of pairs as an array of two columns. -/
theorem pairs_at {α : Type} (x : S4096.Idx → α) (i : Fin 2048) (q : Fin 2) :
    shapeCast S2048x2 x shapeCasts_S4096_S2048x2 (ix2 i q) = x (ix1 (place i q)) := by
  refine shapeCast_apply _ _ _ _ ?_
  rw [Shape.rowMajor_val_two, Shape.rowMajor_val_one]
  rfl

/-- The logits returned, row by row, -/
theorem outLogits_at (i : Fin 16384) (e : Fin 64) : outLogits m c (ix2 i e) = kRow m c i e := by
  refine row_cases (P := fun i => outLogits m c (ix2 i e) = kRow m c i e) (fun i => ?_) (fun i => ?_) i
  · rw [outLogits_eq]; exact (stacked_fst _ _ _ i e).trans (mid4_at m c i e)
  · rw [outLogits_eq]; exact (stacked_snd _ _ _ i e).trans (mid7l_at m c i e)

/-- What is asked of the first 2048 rows. -/
def SecondAbove : Prop := ∀ i : Fin 2048, ∃ b, (∃ a, IsTop2 (kRow m c (fstRow i)) a b) ∧ eps < soft (kRow m c (fstRow i)) b

/-- the probabilities -/
theorem outProbs_at (h : SecondAbove m c) (i : Fin 16384) (q : Fin 2) : outProbs m c (ix2 i q) = pairProb (kRow m c i) q := by
  refine row_cases (P := fun i => outProbs m c (ix2 i q) = pairProb (kRow m c i) q) (fun i => ?_) (fun i => ?_) i
  · rw [outProbs_eq]; exact (stacked_fst _ _ _ i q).trans ((pairs_at _ i q).trans (mid6_at m c i (h i) q).1)
  · rw [outProbs_eq]; exact (stacked_snd _ _ _ i q).trans (mid7p_at m c i q)

/-- and the experts. -/
theorem outPicks_at (h : SecondAbove m c) (i : Fin 16384) (q : Fin 2) : outPicks m c (ix2 i q) = pairPick (kRow m c i) q := by
  refine row_cases (P := fun i => outPicks m c (ix2 i q) = pairPick (kRow m c i) q) (fun i => ?_) (fun i => ?_) i
  · rw [outPicks_eq]; exact (stacked_fst _ _ _ i q).trans ((pairs_at _ i q).trans (mid6_at m c i (h i) q).2)
  · rw [outPicks_eq]; exact (stacked_snd _ _ _ i q).trans (mid7k_at m c i q)

end Cert.Proof.Rows

end
-- ==== Proof.ReferenceRows.lean ====
/-
  What the reference computes, row by row: the same clamped logits, their clamped softmax, and what its top-k returns of it.
-/
module

public import proofs.«01_k».proof.Proof.Gen.ReferenceIdeal.Run
public import proofs.«01_k».proof.Proof.Row
public import proofs.«01_k».proof.Proof.Rank
public import Idealize.ShloMosaic.Lib.Pointwise
public import Idealize.ShloMosaic.Lib.Tactic.CleanTypes

@[expose] public section

set_option maxRecDepth 16384

noncomputable section

namespace Cert.Proof.Rows

open Cert.ReferenceIdeal Cert.ReferenceIdeal.Gen Cert.ReferenceIdeal.Value
open Idealize.ShloMosaic
open Cert.Proof.Row Cert.Proof.Rank

variable (V : Valuation τ sig (Elt Ideal))

/-- Row `i`, column `k` of the activations, -/
abbrev xAt (i : Fin 16384) (k : Fin 2048) : EReal := res_main_v0 V (ix2 i k)

theorem v6_at (i : Fin 16384) (k : Fin 2048) : res_main_v6 V (ix2 i k) = dev (xAt V i) k := by
  unfold res_main_v6
  clean_types
  pointwise [res_main_v4]
  rfl

theorem v24_at (i : Fin 16384) (k : Fin 2048) : res_main_v24 V (ix2 i k)
    = normed (xAt V i) (fun k => V (Proc.devRef .tc main_arg1) (ix1 k)) (fun k => V (Proc.devRef .tc main_arg2) (ix1 k)) k := by
  unfold normed
  rw [← div_sqrt _ _ (spread_pos _)]
  unfold res_main_v24
  clean_types
  pointwise [res_main_v4]
  simp only [v6_at]
  rfl

theorem v26_at (i : Fin 16384) (k : Fin 2048) : res_main_v26 V (ix2 i k) = res_main_v24 V (ix2 i k) := by
  unfold res_main_v26
  clean_types
  simp only [id_eq]
  pointwise []
  simp

theorem v31_at (i : Fin 16384) (k : Fin 2048) : res_main_v31 V (ix2 i k) = noTop (res_main_v24 V (ix2 i k)) := by
  unfold res_main_v31
  clean_types
  simp only [id_eq]
  pointwise []
  simp only [v26_at]
  rfl

/-- The clamped logits. -/
theorem v40_at (i : Fin 16384) (e : Fin 64) : res_main_v40 V (ix2 i e)
    = logit (xAt V i) (fun k => V (Proc.devRef .tc main_arg1) (ix1 k)) (fun k => V (Proc.devRef .tc main_arg2) (ix1 k))
        (fun k e => V (Proc.devRef .tc main_arg3) (ix2 e k)) e := by
  unfold logit
  simp only [← v24_at, ← safe_clamp (res_main_v24 V _)]
  unfold res_main_v40
  clean_types
  simp only [id_eq]
  pointwise []
  simp only [v31_at]
  rfl

/-- Row `i` of the reference's logits. -/
abbrev lAt (i : Fin 16384) (e : Fin 64) : EReal := res_main_v40 V (ix2 i e)

theorem v47_at (i : Fin 16384) (e : Fin 64) :
    res_main_v47 V (ix2 i e) = Ideal.exp (lAt V i e - peak (lAt V i)) := by
  unfold res_main_v47
  clean_types
  pointwise []
  rw [bot_eq, max_eq_right bot_le]
  rfl

/-- Their clamped softmax. -/
theorem v52_at (i : Fin 16384) (e : Fin 64) : res_main_v52 V (ix2 i e) = prob (lAt V i) e := by
  unfold res_main_v52
  clean_types
  simp only [id_eq]
  pointwise []
  simp only [v47_at]
  rfl

end Cert.Proof.Rows

end
-- ==== Proof.TopK.lean ====
/-
  A top-k of two, row by row: the two largest numbers and their positions.
-/
module

public import proofs.«01_k».proof.Proof.Gen.ReferenceIdeal.Run
public import proofs.«01_k».proof.Proof.Rank
public import Idealize.ShloMosaic.Lib.Pointwise

@[expose] public section

set_option maxRecDepth 16384

noncomputable section

namespace Cert.Proof.Rows

open Cert.ReferenceIdeal Cert.ReferenceIdeal.Gen Cert.ReferenceIdeal.Value
open Idealize.ShloMosaic
open Cert.Proof.Rank

theorem along_one (j : S16384x64.Idx) (k : Fin 64) : Shape.Idx.along j 1 k = ix2 (j 0) k := by
  funext a
  match a with
  | 0 => rfl
  | 1 => rfl

/-- The sort behind the top-k, at a place: the row's entry the sort puts there, -/
theorem sort_at (x : FVec Ideal S16384x64 .f32) (y : IVec S16384x64 32) (r : Fin 16384) (c : Fin 64) :
    (Host.sort2 S16384x64 1 (fun l r => FloatOps.cmpfTotal (F := Ideal) (φ := .f32) .gt l.1 r.1) x y).1 (ix2 r c)
      = x (ix2 r (sortedFrom (greater fun e => x (ix2 r e)) c))
    ∧ (Host.sort2 S16384x64 1 (fun l r => FloatOps.cmpfTotal (F := Ideal) (φ := .f32) .gt l.1 r.1) x y).2 (ix2 r c)
      = y (ix2 r (sortedFrom (greater fun e => x (ix2 r e)) c)) := by
  have hc : (fun k k' : Fin 64 => FloatOps.cmpfTotal (F := Ideal) (φ := .f32) .gt (x (Shape.Idx.along (ix2 r c : S16384x64.Idx) 1 k))
      (x (Shape.Idx.along (ix2 r c : S16384x64.Idx) 1 k')) == 1#1) = greater fun e => x (ix2 r e) := by
    funext k k'
    rw [along_one, along_one]
    show (BitVec.ofBool (decide (x (ix2 r k') < x (ix2 r k))) == 1#1) = decide (x (ix2 r k') < x (ix2 r k))
    cases decide (x (ix2 r k') < x (ix2 r k)) <;> rfl
  unfold Host.sort2
  rw [dif_pos (show 1 < S16384x64.rank by decide)]
  constructor
  · exact (congrArg x (along_one (ix2 r c) _)).trans (congrArg (fun f => x (ix2 r (sortedFrom f c))) hc)
  · exact (congrArg y (along_one (ix2 r c) _)).trans (congrArg (fun f => y (ix2 r (sortedFrom f c))) hc)

/-- and the top-k keeps the first two places. -/
theorem firstTwo_at {α : Type} (v : S16384x64.Idx → α) (h : S16384x64.Slices (fun _ => 0) S16384x2) (r : Fin 16384) (c : Fin 2) :
    extractStridedSlice S16384x2 (fun _ => 0) v h (ix2 r c) = v (ix2 r (c.castLE (by decide))) := by
  unfold extractStridedSlice
  congr 1
  funext a
  match a with
  | 0 => exact Fin.ext (Nat.zero_add _)
  | 1 => exact Fin.ext (Nat.zero_add _)

/-- A top-k of two returns of each row the two largest numbers and their positions. -/
theorem topK_at (x : FVec Ideal S16384x64 .f32) (h : S16384x64.Slices (fun _ => 0) S16384x2) (r : Fin 16384) {a b : Fin 64}
    (ht : IsTop2 (fun e => x (ix2 r e)) a b) :
    ((Host.topK S16384x2 1 (FloatOps.cmpfTotal .gt) x h).1 (ix2 r 0) = x (ix2 r a) ∧ (Host.topK S16384x2 1 (FloatOps.cmpfTotal .gt) x h).1 (ix2 r 1) = x (ix2 r b))
    ∧ (Host.topK S16384x2 1 (FloatOps.cmpfTotal .gt) x h).2 (ix2 r 0) = BitVec.ofNat 32 a.val
    ∧ (Host.topK S16384x2 1 (FloatOps.cmpfTotal .gt) x h).2 (ix2 r 1) = BitVec.ofNat 32 b.val := by
  obtain ⟨h0, h1⟩ := sortedFrom_top2 _ ht
  let y : IVec S16384x64 32 := fun i => if hd : 1 < S16384x64.rank then iotaInDim S16384x64 32 ⟨1, hd⟩ i else 0#32
  have hy : ∀ k : Fin 64, y (ix2 r k) = BitVec.ofNat 32 k.val := fun k => by
    show (if hd : 1 < S16384x64.rank then iotaInDim S16384x64 32 ⟨1, hd⟩ (ix2 r k) else 0#32) = _
    rw [dif_pos (show 1 < S16384x64.rank by decide)]
    rfl
  refine ⟨⟨?_, ?_⟩, ?_, ?_⟩
  · exact (firstTwo_at _ h r 0).trans ((sort_at x y r 0).1.trans (congrArg (fun k => x (ix2 r k)) h0))
  · exact (firstTwo_at _ h r 1).trans ((sort_at x y r 1).1.trans (congrArg (fun k => x (ix2 r k)) h1))
  · exact (firstTwo_at _ h r 0).trans ((sort_at x y r 0).2.trans ((hy _).trans (congrArg (fun k : Fin 64 => BitVec.ofNat 32 k.val) h0)))
  · exact (firstTwo_at _ h r 1).trans ((sort_at x y r 1).2.trans ((hy _).trans (congrArg (fun k : Fin 64 => BitVec.ofNat 32 k.val) h1)))

end Cert.Proof.Rows

end
-- ==== Proof.ReferenceResults.lean ====
/-
  The reference's three results, row by row, as functions of its logits.
-/
module

public import proofs.«01_k».proof.Proof.ReferenceRows
public import proofs.«01_k».proof.Proof.TopK
public import proofs.«01_k».proof.Proof.Pair

@[expose] public section

set_option maxRecDepth 16384

noncomputable section

namespace Cert.Proof.Rows

open Cert.ReferenceIdeal Cert.ReferenceIdeal.Gen Cert.ReferenceIdeal.Value
open Idealize.ShloMosaic
open Cert.Proof.Row Cert.Proof.Rank

variable (V : Valuation τ sig (Elt Ideal))

/-- The probabilities the reference returns -/
abbrev refProbs : FVec Ideal S16384x2 .f32 :=
  Host.divf (res_main_values V) (broadcastInDim S16384x2 ![0, 1] bcast_S16384x1_S16384x2_0_1
    (maximumf (broadcastInDim S16384x1 ![] bcast_S_S16384x1 (id (constant S_ .f32 0x38D1B717#32)))
      (broadcastInDim S16384x1 ![0] bcast_S16384_S16384x1_0 (Host.reduceAdd (res_main_values V) (constant S_ .f32 0x00000000#32) reducesTo_S16384x2_S16384_d1 h_S_))))
/-- and the experts. -/
abbrev refPicks : IVec S16384x2 32 := (Host.topK S16384x2 1 (FloatOps.cmpfTotal .gt) (res_main_v52 V) sliceFits_S16384x64_S16384x2).2

/-- The two largest probabilities before their division, -/
abbrev topAt (i : Fin 16384) (q : Fin 2) : EReal := res_main_values V (ix2 i q)

theorem top_at (i : Fin 16384) : (topAt V i 0 = prob (lAt V i) (best (lAt V i)) ∧ topAt V i 1 = prob (lAt V i) (next (lAt V i)))
    ∧ refPicks V (ix2 i 0) = BitVec.ofNat 32 (best (lAt V i)).val ∧ refPicks V (ix2 i 1) = BitVec.ofNat 32 (next (lAt V i)).val := by
  have e : (fun e => (res_main_v52 V : FVec Ideal S16384x64 .f32) (ix2 i e)) = prob (lAt V i) := funext fun e => v52_at V i e
  have h := topK_at (res_main_v52 V) sliceFits_S16384x64_S16384x2 i (a := best (lAt V i)) (b := next (lAt V i)) (by rw [e]; exact isTop2_best _)
  exact ⟨⟨h.1.1.trans (v52_at V i _), h.1.2.trans (v52_at V i _)⟩, h.2⟩

/-- their quotients by their sum, -/
theorem refProbs_top (i : Fin 16384) (q : Fin 2) : refProbs V (ix2 i q) = Ideal.div (topAt V i q) (max eps (topAt V i 0 + topAt V i 1)) := by
  unfold refProbs
  simp only [id_eq]
  pointwise []
  rw [Fin.sum_univ_two]

theorem refProbs_at (i : Fin 16384) (q : Fin 2) : refProbs V (ix2 i q) = pairProb (lAt V i) q := by
  obtain ⟨⟨h0, h1⟩, -⟩ := top_at V i
  rw [refProbs_top, max_comm]
  match q with
  | 0 => unfold pairProb; rw [pick_zero, h0, h1]
  | 1 => unfold pairProb; rw [pick_one, h0, h1]

/-- and the experts. -/
theorem refPicks_at (i : Fin 16384) (q : Fin 2) : refPicks V (ix2 i q) = pairPick (lAt V i) q := by
  obtain ⟨-, h0, h1⟩ := top_at V i
  match q with
  | 0 => unfold pairPick; rw [pick_zero]; exact h0
  | 1 => unfold pairPick; rw [pick_one]; exact h1

end Cert.Proof.Rows

end
-- ==== Proof.Precondition.lean ====
/-
  What the precondition gives: in each of the first 2048 rows the second largest softmax value of the logits is above 1e-4.
-/
module

public import proofs.«01_k».proof.Proof.ReferenceRows
public import proofs.«01_k».proof.Proof.TopK
public import proofs.«01_k».proof.Proof.Pair
public import proofs.«01_k».proof.Pre_second_prob_above_eps
public import Idealize.ShloMosaic.Lib.ReduceAll

@[expose] public section

set_option maxRecDepth 16384

noncomputable section

namespace Cert.Pre_second_prob_above_eps

open Idealize.ShloMosaic

/-- The predicate's side conditions. -/
instance facts : Facts where
  shapeCasts_S4x4096x2048_S16384x2048 := Cert.ReferenceIdeal.Gen.shapeCasts_S4x4096x2048_S16384x2048
  reducesTo_S16384x2048_S16384_d1 := Cert.ReferenceIdeal.Gen.reducesTo_S16384x2048_S16384_d1
  h_S_ := Cert.ReferenceIdeal.Gen.h_S_
  bcast_S16384_S16384x1_0 := Cert.ReferenceIdeal.Gen.bcast_S16384_S16384x1_0
  bcast_S_S16384x1 := Cert.ReferenceIdeal.Gen.bcast_S_S16384x1
  bcast_S16384x1_S16384x2048_0_1 := Cert.ReferenceIdeal.Gen.bcast_S16384x1_S16384x2048_0_1
  bcast_S2048_S1x2048_1 := Cert.ReferenceIdeal.Gen.bcast_S2048_S1x2048_1
  bcast_S1x2048_S16384x2048_0_1 := Cert.ReferenceIdeal.Gen.bcast_S1x2048_S16384x2048_0_1
  bcast_S_S16384x2048 := Cert.ReferenceIdeal.Gen.bcast_S_S16384x2048
  transposes_S64x2048_S2048x64_1_0 := Cert.ReferenceIdeal.Gen.transposes_S64x2048_S2048x64_1_0
  bcast_S_S16384x64 := Cert.ReferenceIdeal.Gen.bcast_S_S16384x64
  reducesTo_S16384x64_S16384_d1 := Cert.ReferenceIdeal.Gen.reducesTo_S16384x64_S16384_d1
  bcast_S_S16384 := Cert.ReferenceIdeal.Gen.bcast_S_S16384
  bcast_S16384x1_S16384x64_0_1 := Cert.ReferenceIdeal.Gen.bcast_S16384x1_S16384x64_0_1
  sliceFits_S16384x64_S16384x2 := Cert.ReferenceIdeal.Gen.sliceFits_S16384x64_S16384x2
  slices_S16384x2_S2048x1_0_1 := by decide
  shapeCasts_S2048x1_S2048 := by decide
  bcast_S_S2048 := by decide
  reducesTo_S2048_S_d0 := by decide
  dot_S16384x2048_S2048x64_S16384x64_1_0_0_1_n_n_wf := Cert.ReferenceIdeal.Gen.dot_S16384x2048_S2048x64_S16384x64_1_0_0_1_n_n_wf

open Facts

/-- The row maxima of the logits, -/
def peaks (l : FVec Ideal S16384x64 .f32) : FVec Ideal S16384 .f32 :=
  maximumf (broadcastInDim S16384 ![] bcast_S_S16384 (constant S_ .f32 0xFF800000#32))
    (Host.reduce FloatOps.maximumf l (constant S_ .f32 0xFF800000#32) reducesTo_S16384x64_S16384_d1 h_S_)
/-- the exponentials below them, -/
def exps (l : FVec Ideal S16384x64 .f32) : FVec Ideal S16384x64 .f32 :=
  Host.exp (subf l (broadcastInDim S16384x64 ![0, 1] bcast_S16384x1_S16384x64_0_1 (broadcastInDim S16384x1 ![0] bcast_S16384_S16384x1_0 (peaks l))))
/-- their softmax, -/
def softs (l : FVec Ideal S16384x64 .f32) : FVec Ideal S16384x64 .f32 :=
  Host.divf (exps l) (broadcastInDim S16384x64 ![0, 1] bcast_S16384x1_S16384x64_0_1 (broadcastInDim S16384x1 ![0] bcast_S16384_S16384x1_0
    (Host.reduceAdd (exps l) (constant S_ .f32 0x00000000#32) reducesTo_S16384x64_S16384_d1 h_S_)))
/-- its second largest values in the first 2048 rows, -/
def seconds (l : FVec Ideal S16384x64 .f32) : FVec Ideal S2048 .f32 :=
  shapeCast S2048 (extractStridedSlice S2048x1 ![0, 1] (Host.topK S16384x2 1 (FloatOps.cmpfTotal .gt) (softs l) sliceFits_S16384x64_S16384x2).1 slices_S16384x2_S2048x1_0_1)
    shapeCasts_S2048x1_S2048
/-- and whether all of them are above 1e-4. -/
def allAbove (l : FVec Ideal S16384x64 .f32) : IVec S_ 1 :=
  Host.reduce IntOp.andi (cmpf .ogt (seconds l) (broadcastInDim S2048 ![] bcast_S_S2048 (constant S_ .f32 0x38D1B717#32))) (constantI S_ 1 1#1)
    reducesTo_S2048_S_d0 h_S_

end Cert.Pre_second_prob_above_eps

namespace Cert.Proof.Rows

open Cert.ReferenceIdeal Cert.ReferenceIdeal.Gen Cert.ReferenceIdeal.Value
open Idealize.ShloMosaic
open Cert.Proof.Row Cert.Proof.Rank
open Cert.Pre_second_prob_above_eps (peaks exps softs seconds allAbove)

/-- The predicate is that question of the reference's logits. -/
theorem fn_eq (V : Valuation τ sig (Elt Ideal)) :
    Cert.Pre_second_prob_above_eps.fn (F := Ideal) (V (Proc.devRef .tc main_arg0)) (V (Proc.devRef .tc main_arg1)) (V (Proc.devRef .tc main_arg2))
      (V (Proc.devRef .tc main_arg3)) = allAbove (res_main_v40 V) := by
  rfl

variable (l : FVec Ideal S16384x64 .f32)

/-- Row `i` of an array of logits. -/
abbrev rowOf (i : Fin 16384) (e : Fin 64) : EReal := l (ix2 i e)

theorem exps_at (i : Fin 16384) (e : Fin 64) : exps l (ix2 i e) = Ideal.exp (rowOf l i e - peak (rowOf l i)) := by
  unfold exps peaks
  pointwise []
  rw [bot_eq, max_eq_right bot_le]
  rfl

theorem softs_at (i : Fin 16384) (e : Fin 64) : softs l (ix2 i e) = soft (rowOf l i) e := by
  unfold softs
  pointwise []
  simp only [exps_at]
  rfl

theorem seconds_at (i : Fin 2048) {a b : Fin 64} (h : IsTop2 (soft (rowOf l ⟨i.val, by omega⟩)) a b) :
    seconds l (ix1 i) = soft (rowOf l ⟨i.val, by omega⟩) b := by
  have e : (fun e => softs l (ix2 (⟨i.val, by omega⟩ : Fin 16384) e)) = soft (rowOf l ⟨i.val, by omega⟩) := funext fun e => softs_at l _ e
  have ht := (topK_at (softs l) sliceFits_S16384x64_S16384x2 ⟨i.val, by omega⟩ (a := a) (b := b) (by rw [e]; exact h)).1.2
  rw [softs_at] at ht
  rw [← ht]
  unfold seconds
  pointwise []

theorem greater_at {s : Shape} (x y : FVec Ideal s .f32) (i : s.Idx) : cmpf .ogt x y i = BitVec.ofBool (decide (y i < x i)) := rfl

theorem ofBool_one {p : Prop} [Decidable p] (h : BitVec.ofBool (decide p) = 1#1) : p := by
  by_contra hn
  rw [decide_eq_false hn] at h
  exact absurd h (by decide)

/-- Where the predicate holds, in each of the first 2048 rows of logits the second largest softmax value is above 1e-4. -/
theorem above_of_all (h : allAbove l = fun _ => 1#1) (i : Fin 2048) {a b : Fin 64} (ht : IsTop2 (soft (rowOf l ⟨i.val, by omega⟩)) a b) :
    eps < soft (rowOf l ⟨i.val, by omega⟩) b := by
  have hs : Subsingleton Cert.Pre_second_prob_above_eps.S_.Idx := ⟨fun x y => funext fun a => a.elim0⟩
  have h0 : allAbove l ix0 = 1#1 := congrFun h ix0
  unfold allAbove at h0
  have e := Host.reduce_andi_all _ _ _ _ ix0 h0 (ix1 i)
  rw [greater_at, seconds_at l i ht] at e
  exact ofBool_one e

end Cert.Proof.Rows

end
-- ==== Proof.Equal.lean ====
/-
  The kernel and the reference return the same three arrays.
-/
module

public import proofs.«01_k».proof.Proof.Finals
public import proofs.«01_k».proof.Proof.ReferenceResults
public import proofs.«01_k».proof.Proof.Precondition

@[expose] public section

set_option maxRecDepth 16384

noncomputable section

namespace Cert.Proof.Rows

open Cert.KernelIdeal Cert.KernelIdeal.Gen Cert.Proof.Run
open Idealize.ShloMosaic Idealize.ShloMosaic.TcCoe
open Cert.Proof.Row Cert.Proof.Rank

/-! ## The kernel's operands are the arguments, laid out anew -/

section Operands

variable (m : (ℓ : Loc nD τ sig) → Buf (Elt Ideal) ℓ) (c : Dev nD)

/-- The arguments. -/
abbrev in0 : FVec Ideal S4x4096x2048 .f32 := m (c, dr main_arg0)
abbrev in1 : FVec Ideal S2048 .f32 := m (c, dr main_arg1)
abbrev in2 : FVec Ideal S2048 .f32 := m (c, dr main_arg2)
abbrev in3 : FVec Ideal S64x2048 .f32 := m (c, dr main_arg3)

theorem operand0 : (V4 m c (dr main_v0) : FVec Ideal S16384x2048 .f32) = shapeCast S16384x2048 (in0 m c) shapeCasts_S4x4096x2048_S16384x2048 := by
  unfold V4
  rw [StableHlo.unary_result_ne _ _ _ _ _ _ (by decide : main_v0 ≠ main_v3), StableHlo.reshape_result_ne _ _ _ _ _ _ _ (by decide : main_v0 ≠ main_v2),
    StableHlo.reshape_result_ne _ _ _ _ _ _ _ (by decide : main_v0 ≠ main_v1), StableHlo.reshape_result]
  rfl

theorem operand1 : (V4 m c (dr main_v1) : FVec Ideal S1x2048 .f32) = shapeCast S1x2048 (in1 m c) shapeCasts_S2048_S1x2048 := by
  unfold V4
  rw [StableHlo.unary_result_ne _ _ _ _ _ _ (by decide : main_v1 ≠ main_v3), StableHlo.reshape_result_ne _ _ _ _ _ _ _ (by decide : main_v1 ≠ main_v2),
    StableHlo.reshape_result, StableHlo.reshape_result_ne _ _ _ _ _ _ _ (by decide : main_arg1 ≠ main_v0)]
  rfl

theorem operand2 : (V4 m c (dr main_v2) : FVec Ideal S1x2048 .f32) = shapeCast S1x2048 (in2 m c) shapeCasts_S2048_S1x2048 := by
  unfold V4
  rw [StableHlo.unary_result_ne _ _ _ _ _ _ (by decide : main_v2 ≠ main_v3), StableHlo.reshape_result,
    StableHlo.reshape_result_ne _ _ _ _ _ _ _ (by decide : main_arg2 ≠ main_v1), StableHlo.reshape_result_ne _ _ _ _ _ _ _ (by decide : main_arg2 ≠ main_v0)]
  rfl

theorem operand3 : (V4 m c (dr main_v3) : FVec Ideal S2048x64 .f32) = transpose S2048x64 [1, 0] (in3 m c) transposes_S64x2048_S2048x64_1_0 := by
  unfold V4
  rw [StableHlo.unary_result, StableHlo.reshape_result_ne _ _ _ _ _ _ _ (by decide : main_arg3 ≠ main_v2),
    StableHlo.reshape_result_ne _ _ _ _ _ _ _ (by decide : main_arg3 ≠ main_v1), StableHlo.reshape_result_ne _ _ _ _ _ _ _ (by decide : main_arg3 ≠ main_v0)]
  rfl

theorem line_at (x : FVec Ideal S2048 .f32) (k : Fin 2048) : shapeCast S1x2048 x shapeCasts_S2048_S1x2048 (ix2 0 k) = x (ix1 k) := by
  refine shapeCast_apply _ _ _ _ ?_
  rw [Shape.rowMajor_val_two, Shape.rowMajor_val_one]
  exact (Nat.zero_add _).symm

theorem turned_at (x : FVec Ideal S64x2048 .f32) (k : Fin 2048) (e : Fin 64) :
    transpose S2048x64 [1, 0] x transposes_S64x2048_S2048x64_1_0 (ix2 k e) = x (ix2 e k) := by
  pointwise []

/-- The kernel's logits of a row, as a function of the arguments. -/
theorem kRow_eq (i : Fin 16384) (e : Fin 64) :
    kRow m c i e = logit (fun k => shapeCast S16384x2048 (in0 m c) shapeCasts_S4x4096x2048_S16384x2048 (ix2 i k)) (fun k => in1 m c (ix1 k))
      (fun k => in2 m c (ix1 k)) (fun k e => in3 m c (ix2 e k)) e := by
  unfold kRow lRow xRow
  show logit (fun k => (V4 m c (dr main_v0) : FVec Ideal S16384x2048 .f32) (ix2 i k)) (fun k => (V4 m c (dr main_v1) : FVec Ideal S1x2048 .f32) (ix2 0 k))
    (fun k => (V4 m c (dr main_v2) : FVec Ideal S1x2048 .f32) (ix2 0 k)) (fun k e => (V4 m c (dr main_v3) : FVec Ideal S2048x64 .f32) (ix2 k e)) e = _
  rw [operand0, operand1, operand2, operand3]
  simp only [line_at]
  exact congrFun (congrArg (logit _ _ _) (funext fun k => funext fun e => turned_at (in3 m c) k e)) e

end Operands

/-! ## The same logits -/

variable (m : (ℓ : Loc nD τ sig) → Buf (Elt Ideal) ℓ) (c : Dev nD) (V : Valuation Cert.ReferenceIdeal.τ Cert.ReferenceIdeal.sig (Elt Ideal))

/-- The reference is given the same arguments. -/
structure SameArgs : Prop where
  arg0 : (V (Proc.devRef .tc Cert.ReferenceIdeal.main_arg0) : FVec Ideal S4x4096x2048 .f32) = in0 m c
  arg1 : (V (Proc.devRef .tc Cert.ReferenceIdeal.main_arg1) : FVec Ideal S2048 .f32) = in1 m c
  arg2 : (V (Proc.devRef .tc Cert.ReferenceIdeal.main_arg2) : FVec Ideal S2048 .f32) = in2 m c
  arg3 : (V (Proc.devRef .tc Cert.ReferenceIdeal.main_arg3) : FVec Ideal S64x2048 .f32) = in3 m c

variable {m c V} (h : SameArgs m c V)
include h

theorem xAt_eq (i : Fin 16384) (k : Fin 2048) :
    xAt V i k = shapeCast S16384x2048 (in0 m c) shapeCasts_S4x4096x2048_S16384x2048 (ix2 i k) := by
  rw [← h.arg0]
  rfl

theorem rows_eq (i : Fin 16384) : kRow m c i = lAt V i := by
  funext e
  rw [kRow_eq]
  refine Eq.symm ((v40_at V i e).trans ?_)
  have h1 : (fun k => (V (Proc.devRef .tc Cert.ReferenceIdeal.main_arg1) : FVec Ideal S2048 .f32) (ix1 k)) = fun k => in1 m c (ix1 k) := by rw [h.arg1]
  have h2 : (fun k => (V (Proc.devRef .tc Cert.ReferenceIdeal.main_arg2) : FVec Ideal S2048 .f32) (ix1 k)) = fun k => in2 m c (ix1 k) := by rw [h.arg2]
  have h3 : (fun (k : Fin 2048) (e : Fin 64) => (V (Proc.devRef .tc Cert.ReferenceIdeal.main_arg3) : FVec Ideal S64x2048 .f32) (ix2 e k)) = fun k e => in3 m c (ix2 e k) := by rw [h.arg3]
  have h0 : xAt V i = fun k => shapeCast S16384x2048 (in0 m c) shapeCasts_S4x4096x2048_S16384x2048 (ix2 i k) := funext fun k => xAt_eq h i k
  exact congrFun (congr (congr (congr (congrArg logit h0) h1) h2) h3) e

theorem logits_eq : outLogits m c = Cert.ReferenceIdeal.Value.res_main_v40 V := by
  funext j
  rw [eq_ix2 j]
  exact (outLogits_at m c _ _).trans (congrFun (rows_eq h _) _)

/-- The precondition, in the kernel's rows. -/
theorem second_above (hp : Cert.Pre_second_prob_above_eps.fn (F := Ideal) (in0 m c) (in1 m c) (in2 m c) (in3 m c) = fun _ => 1#1) : SecondAbove m c := by
  rw [← h.arg0, ← h.arg1, ← h.arg2, ← h.arg3] at hp
  have ha := (fn_eq V).symm.trans hp
  intro i
  obtain ⟨r, hr⟩ := kRow_real m c (fstRow i)
  obtain ⟨a, b, ht⟩ := exists_isTop2 (kRow m c (fstRow i))
  refine ⟨b, ⟨a, ht⟩, ?_⟩
  rw [rows_eq h] at hr ht ⊢
  refine above_of_all _ ha i (a := a) ?_
  show IsTop2 (soft (lAt V (fstRow i))) a b
  rw [hr] at ht ⊢
  exact isTop2_soft r ht

theorem probs_eq (hs : SecondAbove m c) : outProbs m c = refProbs V := by
  funext j
  rw [eq_ix2 j]
  exact (outProbs_at m c hs _ _).trans ((congrArg (pairProb · _) (rows_eq h _)).trans (refProbs_at V _ _).symm)

theorem picks_eq (hs : SecondAbove m c) : outPicks m c = refPicks V := by
  funext j
  rw [eq_ix2 j]
  exact (outPicks_at m c hs _ _).trans ((congrArg (pairPick · _) (rows_eq h _)).trans (refPicks_at V _ _).symm)

end Cert.Proof.Rows

/-! ## The claim -/

namespace Cert.Proof.Run

open Idealize.ShloMosaic Idealize.ShloMosaic.TcCoe
open Cert.Proof.Rows

/-- From the same arguments, under the precondition, the kernel and the reference end with equal results. -/
theorem equal_results : Cert.algebraic_KernelIdeal_ReferenceIdeal_pre_second_prob_above_eps := by
  intro m g m' g' hp ha
  have same : ∀ c, SameArgs m c (StableHlo.launchContents m' c) := fun c => ⟨(ha c).1, (ha c).2.1, (ha c).2.2.1, (ha c).2.2.2⟩
  have above : ∀ c, SecondAbove m c := fun c => second_above (same c) (hp c)
  refine ⟨fun c => outProbs m c, fun c => outPicks m c, fun c => outLogits m c, ?_, ?_⟩
  · refine (θ_run Cert.KernelIdeal.defs _ _).mono (fun r h c => ?_) (run_main (F := Ideal) m g)
    have h9 := h.1 c _ (mem_uc Cert.KernelIdeal.main_v9 rfl)
    have h11 := h.1 c _ (mem_uc Cert.KernelIdeal.main_v11 rfl)
    have h12 := h.1 c _ (mem_uc Cert.KernelIdeal.main_v12 rfl)
    exact ⟨h9, h11, h12, QC_args m h c⟩
  · exact (θ_run Cert.ReferenceIdeal.defs _ _).mono (fun r h c => ⟨(h c).1.trans (probs_eq (same c) (above c)).symm,
      (h c).2.1.trans (picks_eq (same c) (above c)).symm, (h c).2.2.1.trans (logits_eq (same c)).symm, (h c).2.2.2⟩)
      (Cert.ReferenceIdeal.Value.run m' g')

/-- The idealized kernel's frame under the precondition, -/
theorem frame_kernelIdeal_above : Cert.quiescent_KernelIdeal_pre_second_prob_above_eps := fun m g _ => frame_kernelIdeal m g trivial

/-- and the reference's. -/
theorem frame_reference_above : Cert.quiescent_ReferenceIdeal_pre_second_prob_above_eps := fun m g _ => frame_reference m g trivial

end Cert.Proof.Run

end
-- ==== Proof.lean ====
/-
  The certificate's claim, assembled. The kernel's and the reference's frames are Proof/Frames.lean; `preserves` has no
  rewrite to check; that the two return equal arrays, and the frames under its precondition, are Proof/Equal.lean.
-/
module

public import proofs.«01_k».proof.Proof.Equal

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts, Cert.Pre_second_prob_above_eps.facts, Run.frame_kernel,
    Run.frame_kernelIdeal, Run.frame_kernelIdeal_above, Run.frame_reference, Run.frame_reference_above, trivial, Run.equal_results⟩

end Cert.Proof

end
